-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v6_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_v13) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S4x1024x4096 : Shape := ⟨3, ![4, 1024, 4096]⟩
abbrev S8x1024 : Shape := ⟨2, ![8, 1024]⟩
abbrev S8 : Shape := ⟨1, ![8]⟩
abbrev S1024x8 : Shape := ⟨2, ![1024, 8]⟩
abbrev S1024 : Shape := ⟨1, ![1024]⟩
abbrev S8192x8 : Shape := ⟨2, ![8192, 8]⟩
abbrev S_ : Shape := ⟨0, ![]⟩

class Facts : Prop where
  bcast_S_S4x1024x4096 : S_.BroadcastsInDim S4x1024x4096 (![] : Fin 0 → Fin S4x1024x4096.rank)
  reducesTo_S4x1024x4096_S_d0_1_2 : S4x1024x4096.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S8 : S_.BroadcastsInDim S8 (![] : Fin 0 → Fin S8.rank)
  reducesTo_S8_S_d0 : S8.ReducesTo [0] S_
  bcast_S_S1024x8 : S_.BroadcastsInDim S1024x8 (![] : Fin 0 → Fin S1024x8.rank)
  reducesTo_S1024x8_S_d0_1 : S1024x8.ReducesTo [0, 1] S_
  bcast_S_S8192x8 : S_.BroadcastsInDim S8192x8 (![] : Fin 0 → Fin S8192x8.rank)
  reducesTo_S8192x8_S_d0_1 : S8192x8.ReducesTo [0, 1] S_
  reducesTo_S8x1024_S8_d1 : S8x1024.ReducesTo [1] S8

variable [Facts]

def fn_part2 {F : FTy → Type} [FloatOps F] (main_v28 : IVec S_ 1) (main_v32 : IVec S8 1) (main_c_12 : IVec S_ 1) : IVec S_ 1 :=
  let main_v33 : IVec S_ 1 := (fun x v => Host.reduce IntOp.andi x v reducesTo_S8_S_d0 h_S_) main_v32 main_c_12
  let main_v34 : IVec S_ 1 := andi main_v28 main_v33
  main_v34

def fn_part1 {F : FTy → Type} [FloatOps F] (main_arg1 : FVec F S8x1024 .f32) (main_arg4 : FVec F S1024x8 .f32) (main_arg7 : FVec F S8192x8 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S1024x8 .f32 := Host.absf main_arg4
  let main_cst_6 : FVec F S_ .f32 := constant S_ .f32 0x7F800000#32
  let main_v20 : FVec F S1024x8 .f32 := broadcastInDim S1024x8 ![] bcast_S_S1024x8 main_cst_6
  let main_v21 : IVec S1024x8 1 := cmpf .olt main_v19 main_v20
  let main_c_7 : IVec S_ 1 := constantI S_ 1 1#1
  let main_v22 : IVec S_ 1 := (fun x v => Host.reduce IntOp.andi x v reducesTo_S1024x8_S_d0_1 h_S_) main_v21 main_c_7
  let main_v23 : IVec S_ 1 := andi main_v18 main_v22
  let main_v24 : FVec F S8192x8 .f32 := Host.absf main_arg7
  let main_cst_8 : FVec F S_ .f32 := constant S_ .f32 0x7F800000#32
  let main_v25 : FVec F S8192x8 .f32 := broadcastInDim S8192x8 ![] bcast_S_S8192x8 main_cst_8
  let main_v26 : IVec S8192x8 1 := cmpf .olt main_v24 main_v25
  let main_c_9 : IVec S_ 1 := constantI S_ 1 1#1
  let main_v27 : IVec S_ 1 := (fun x v => Host.reduce IntOp.andi x v reducesTo_S8192x8_S_d0_1 h_S_) main_v26 main_c_9
  let main_v28 : IVec S_ 1 := andi main_v23 main_v27
  let main_v29 : FVec F S8x1024 .f32 := mulf main_arg1 main_arg1
  let main_cst_10 : FVec F S_ .f32 := constant S_ .f32 0x00000000#32
  let main_v30 : FVec F S8 .f32 := (fun x v => Host.reduceAdd x v reducesTo_S8x1024_S8_d1 h_S_) main_v29 main_cst_10
  let main_cst_11 : FVec F S_ .f32 := constant S_ .f32 0x00000000#32
  let main_v31 : FVec F S8 .f32 := broadcastInDim S8 ![] bcast_S_S8 main_cst_11
  let main_v32 : IVec S8 1 := cmpf .ogt main_v30 main_v31
  let main_c_12 : IVec S_ 1 := constantI S_ 1 1#1
  fn_part2 (F := F) main_v28 main_v32 main_c_12

def fn {F : FTy → Type} [FloatOps F] (main_arg0 : FVec F S4x1024x4096 .f32) (main_arg1 : FVec F S8x1024 .f32) (main_arg2 : FVec F S8 .f32) (main_arg3 : FVec F S8 .f32) (main_arg4 : FVec F S1024x8 .f32) (main_arg5 : FVec F S1024 .f32) (main_arg6 : FVec F S1024 .f32) (main_arg7 : FVec F S8192x8 .f32) : IVec S_ 1 :=
  let main_v0 : FVec F S4x1024x4096 .f32 := Host.absf main_arg0
  let main_cst : FVec F S_ .f32 := constant S_ .f32 0x7F800000#32
  let main_v1 : FVec F S4x1024x4096 .f32 := broadcastInDim S4x1024x4096 ![] bcast_S_S4x1024x4096 main_cst
  let main_v2 : IVec S4x1024x4096 1 := cmpf .olt main_v0 main_v1
  let main_c : IVec S_ 1 := constantI S_ 1 1#1
  let main_v3 : IVec S_ 1 := (fun x v => Host.reduce IntOp.andi x v reducesTo_S4x1024x4096_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg1 main_arg4 main_arg7 main_v13 main_v16
-- ==== Kernel.lean ====
abbrev S4x1024x4096 : Shape := ⟨3, ![4, 1024, 4096]⟩
abbrev S8x1024 : Shape := ⟨2, ![8, 1024]⟩
abbrev S8 : Shape := ⟨1, ![8]⟩
abbrev S1024x8 : Shape := ⟨2, ![1024, 8]⟩
abbrev S1024 : Shape := ⟨1, ![1024]⟩
abbrev S8192x8 : Shape := ⟨2, ![8192, 8]⟩
abbrev S8x8192 : Shape := ⟨2, ![8, 8192]⟩
abbrev S8x1 : Shape := ⟨2, ![8, 1]⟩
abbrev S1024x1 : Shape := ⟨2, ![1024, 1]⟩
abbrev S1x8192 : Shape := ⟨2, ![1, 8192]⟩
abbrev S8192 : Shape := ⟨1, ![8192]⟩
abbrev S4x1x4096 : Shape := ⟨3, ![4, 1, 4096]⟩
abbrev S4x8x4096 : Shape := ⟨3, ![4, 8, 4096]⟩
abbrev S1x1024x512 : Shape := ⟨3, ![1, 1024, 512]⟩
abbrev S1x1x512 : Shape := ⟨3, ![1, 1, 512]⟩
abbrev S1x8x512 : Shape := ⟨3, ![1, 8, 512]⟩
abbrev S1024x512 : Shape := ⟨2, ![1024, 512]⟩
abbrev S8x512 : Shape := ⟨2, ![8, 512]⟩
abbrev S512 : Shape := ⟨1, ![512]⟩
abbrev S1x512 : Shape := ⟨2, ![1, 512]⟩
abbrev S512x8192 : Shape := ⟨2, ![512, 8192]⟩
abbrev S512x1 : Shape := ⟨2, ![512, 1]⟩
abbrev S512x4096 : Shape := ⟨2, ![512, 4096]⟩
abbrev S512x8 : Shape := ⟨2, ![512, 8]⟩
abbrev S4x4096 : Shape := ⟨2, ![4, 4096]⟩
abbrev S_ : Shape := ⟨0, ![]⟩
abbrev S4 : Shape := ⟨1, ![4]⟩

abbrev nBuf : Space → Nat
  | .hbm => 24
  | .vmem => 26
  | .smem => 0
  | _ => 0

abbrev bufTy : (tb : Table) → Fin (tcTables nBuf tb) → BufTy
  | .hbm, ⟨0, _⟩ => ⟨S4x1024x4096, .f32⟩
  | .hbm, ⟨1, _⟩ => ⟨S8x1024, .f32⟩
  | .hbm, ⟨2, _⟩ => ⟨S8, .f32⟩
  | .hbm, ⟨3, _⟩ => ⟨S8, .f32⟩
  | .hbm, ⟨4, _⟩ => ⟨S1024x8, .f32⟩
  | .hbm, ⟨5, _⟩ => ⟨S1024, .f32⟩
  | .hbm, ⟨6, _⟩ => ⟨S1024, .f32⟩
  | .hbm, ⟨7, _⟩ => ⟨S8192x8, .f32⟩
  | .hbm, ⟨8, _⟩ => ⟨S8x8192, .f32⟩
  | .hbm, ⟨9, _⟩ => ⟨S8x1, .f32⟩
  | .hbm, ⟨10, _⟩ => ⟨S1024x1, .f32⟩
  | .hbm, ⟨11, _⟩ => ⟨S8x8192, .bf16⟩
  | .hbm, ⟨12, _⟩ => ⟨S1x8192, .f32⟩
  | .hbm, ⟨13, _⟩ => ⟨S8192x8, .bf16⟩
  | .hbm, ⟨14, _⟩ => ⟨S8x1024, .bf16⟩
  | .hbm, ⟨15, _⟩ => ⟨S1024x8, .bf16⟩
  | .hbm, ⟨16, _⟩ => ⟨S8x1, .f32⟩
  | .hbm, ⟨17, _⟩ => ⟨S1024x1, .f32⟩
  | .hbm, ⟨18, _⟩ => ⟨S4x1024x4096, .f32⟩
  | .hbm, ⟨19, _⟩ => ⟨S4x1x4096, .i32⟩
  | .hbm, ⟨20, _⟩ => ⟨S4x8x4096, .f32⟩
  | .hbm, ⟨21, _⟩ => ⟨S4x4096, .i32⟩
  | .hbm, ⟨22, _⟩ => ⟨S_, .f32⟩
  | .hbm, ⟨23, _⟩ => ⟨S4, .f32⟩
  | .local _ .vmem, ⟨0, _⟩ => ⟨S8x8192, .f32⟩
  | .local _ .vmem, ⟨1, _⟩ => ⟨S8192x8, .f32⟩
  | .local _ .vmem, ⟨2, _⟩ => ⟨S8x1024, .f32⟩
  | .local _ .vmem, ⟨3, _⟩ => ⟨S8x1, .f32⟩
  | .local _ .vmem, ⟨4, _⟩ => ⟨S1024x8, .f32⟩
  | .local _ .vmem, ⟨5, _⟩ => ⟨S1024x1, .f32⟩
  | .local _ .vmem, ⟨6, _⟩ => ⟨S8x8192, .bf16⟩
  | .local _ .vmem, ⟨7, _⟩ => ⟨S1x8192, .f32⟩
  | .local _ .vmem, ⟨8, _⟩ => ⟨S8192x8, .bf16⟩
  | .local _ .vmem, ⟨9, _⟩ => ⟨S8x1024, .bf16⟩
  | .local _ .vmem, ⟨10, _⟩ => ⟨S1024x8, .bf16⟩
  | .local _ .vmem, ⟨11, _⟩ => ⟨S1x1024x512, .f32⟩
  | .local _ .vmem, ⟨12, _⟩ => ⟨S1x1024x512, .f32⟩
  | .local _ .vmem, ⟨13, _⟩ => ⟨S8x1, .f32⟩
  | .local _ .vmem, ⟨14, _⟩ => ⟨S1024x1, .f32⟩
  | .local _ .vmem, ⟨15, _⟩ => ⟨S8x1024, .bf16⟩
  | .local _ .vmem, ⟨16, _⟩ => ⟨S1024x8, .bf16⟩
  | .local _ .vmem, ⟨17, _⟩ => ⟨S8x8192, .bf16⟩
  | .local _ .vmem, ⟨18, _⟩ => ⟨S1x8192, .f32⟩
  | .local _ .vmem, ⟨19, _⟩ => ⟨S8192x8, .bf16⟩
  | .local _ .vmem, ⟨20, _⟩ => ⟨S1x1024x512, .f32⟩
  | .local _ .vmem, ⟨21, _⟩ => ⟨S1x1024x512, .f32⟩
  | .local _ .vmem, ⟨22, _⟩ => ⟨S1x1x512, .i32⟩
  | .local _ .vmem, ⟨23, _⟩ => ⟨S1x1x512, .i32⟩
  | .local _ .vmem, ⟨24, _⟩ => ⟨S1x8x512, .f32⟩
  | .local _ .vmem, ⟨25, _⟩ => ⟨S1x8x512, .f32⟩
  | _, _ => ⟨S4x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := .none

abbrev stage0_0 : Fin 1 → Memref sig .tc .vmem S8x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x8 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x8 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S8x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x8 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S8x8192 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x8192 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S8192x8 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x1024x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x1x512 .i32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x8x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== ReferenceIdeal.lean ====
abbrev S4x1024x4096 : Shape := ⟨3, ![4, 1024, 4096]⟩
abbrev S8x1024 : Shape := ⟨2, ![8, 1024]⟩
abbrev S8 : Shape := ⟨1, ![8]⟩
abbrev S1024x8 : Shape := ⟨2, ![1024, 8]⟩
abbrev S1024 : Shape := ⟨1, ![1024]⟩
abbrev S8192x8 : Shape := ⟨2, ![8192, 8]⟩
abbrev S_ : Shape := ⟨0, ![]⟩
abbrev S8x1 : Shape := ⟨2, ![8, 1]⟩
abbrev S4x4096x8 : Shape := ⟨3, ![4, 4096, 8]⟩
abbrev S4x8x4096 : Shape := ⟨3, ![4, 8, 4096]⟩
abbrev S1x8x1 : Shape := ⟨3, ![1, 8, 1]⟩
abbrev S16384x8 : Shape := ⟨2, ![16384, 8]⟩
abbrev S16384 : Shape := ⟨1, ![16384]⟩
abbrev S16384x1 : Shape := ⟨2, ![16384, 1]⟩
abbrev S8192 : Shape := ⟨1, ![8192]⟩
abbrev S8192x1 : Shape := ⟨2, ![8192, 1]⟩
abbrev S8x8192 : Shape := ⟨2, ![8, 8192]⟩
abbrev S16384x8192 : Shape := ⟨2, ![16384, 8192]⟩
abbrev S1x8192 : Shape := ⟨2, ![1, 8192]⟩
abbrev S4x4096 : Shape := ⟨2, ![4, 4096]⟩
abbrev S4x4096x1 : Shape := ⟨3, ![4, 4096, 1]⟩
abbrev S1 : Shape := ⟨1, ![1]⟩
abbrev S1x1x1 : Shape := ⟨3, ![1, 1, 1]⟩
abbrev S1024x1 : Shape := ⟨2, ![1024, 1]⟩
abbrev S4x4096x1024 : Shape := ⟨3, ![4, 4096, 1024]⟩
abbrev S1x1024x1 : Shape := ⟨3, ![1, 1024, 1]⟩
abbrev S4 : Shape := ⟨1, ![4]⟩

abbrev nBuf : Space → Nat
  | .hbm => 115
  | .vmem => 0
  | .smem => 0
  | _ => 0

abbrev bufTy : (tb : Table) → Fin (tcTables nBuf tb) → BufTy
  | .hbm, ⟨0, _⟩ => ⟨S4x1024x4096, .f32⟩
  | .hbm, ⟨1, _⟩ => ⟨S8x1024, .f32⟩
  | .hbm, ⟨2, _⟩ => ⟨S8, .f32⟩
  | .hbm, ⟨3, _⟩ => ⟨S8, .f32⟩
  | .hbm, ⟨4, _⟩ => ⟨S1024x8, .f32⟩
  | .hbm, ⟨5, _⟩ => ⟨S1024, .f32⟩
  | .hbm, ⟨6, _⟩ => ⟨S1024, .f32⟩
  | .hbm, ⟨7, _⟩ => ⟨S8192x8, .f32⟩
  | .hbm, ⟨8, _⟩ => ⟨S8x1024, .f32⟩
  | .hbm, ⟨9, _⟩ => ⟨S_, .f32⟩
  | .hbm, ⟨10, _⟩ => ⟨S8, .f32⟩
  | .hbm, ⟨11, _⟩ => ⟨S8x1, .f32⟩
  | .hbm, ⟨12, _⟩ => ⟨S8x1, .f32⟩
  | .hbm, ⟨13, _⟩ => ⟨S8x1, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S4x4096x8, .f32⟩
  | .hbm, ⟨19, _⟩ => ⟨S4x8x4096, .f32⟩
  | .hbm, ⟨20, _⟩ => ⟨S1x8x1, .f32⟩
  | .hbm, ⟨21, _⟩ => ⟨S4x8x4096, .f32⟩
  | .hbm, ⟨22, _⟩ => ⟨S4x8x4096, .f32⟩
  | .hbm, ⟨23, _⟩ => ⟨S4x4096x8, .f32⟩
  | .hbm, ⟨24, _⟩ => ⟨S16384x8, .f32⟩
  | .hbm, ⟨25, _⟩ => ⟨S16384x8, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x8, .f32⟩
  | .hbm, ⟨34, _⟩ => ⟨S16384x8, .f32⟩
  | .hbm, ⟨35, _⟩ => ⟨S8192x8, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x8, .f32⟩
  | .hbm, ⟨44, _⟩ => ⟨S8192x8, .f32⟩
  | .hbm, ⟨45, _⟩ => ⟨S16384x8, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x8, .f32⟩
  | .hbm, ⟨51, _⟩ => ⟨S16384x8, .f32⟩
  | .hbm, ⟨52, _⟩ => ⟨S8x8192, .f32⟩
  | .hbm, ⟨53, _⟩ => ⟨S16384x8192, .f32⟩
  | .hbm, ⟨54, _⟩ => ⟨S16384x8192, .f32⟩
  | .hbm, ⟨55, _⟩ => ⟨S16384x8192, .f32⟩
  | .hbm, ⟨56, _⟩ => ⟨S8192x8, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S1x8192, .f32⟩
  | .hbm, ⟨61, _⟩ => ⟨S16384x8192, .f32⟩
  | .hbm, ⟨62, _⟩ => ⟨S16384x8192, .f32⟩
  | .hbm, ⟨63, _⟩ => ⟨S16384x8192, .f32⟩
  | .hbm, ⟨64, _⟩ => ⟨S16384x8192, .i32⟩
  | .hbm, ⟨65, _⟩ => ⟨S_, .f32⟩
  | .hbm, ⟨66, _⟩ => ⟨S_, .i32⟩
  | .hbm, ⟨67, _⟩ => ⟨S16384, .f32⟩
  | .hbm, ⟨68, _⟩ => ⟨S16384, .i32⟩
  | .hbm, ⟨69, _⟩ => ⟨S4x4096, .i32⟩
  | .hbm, ⟨70, _⟩ => ⟨S_, .i32⟩
  | .hbm, ⟨71, _⟩ => ⟨S4x4096, .i32⟩
  | .hbm, ⟨72, _⟩ => ⟨S4x4096, .i1⟩
  | .hbm, ⟨73, _⟩ => ⟨S_, .i32⟩
  | .hbm, ⟨74, _⟩ => ⟨S4x4096, .i32⟩
  | .hbm, ⟨75, _⟩ => ⟨S4x4096, .i32⟩
  | .hbm, ⟨76, _⟩ => ⟨S4x4096, .i32⟩
  | .hbm, ⟨77, _⟩ => ⟨S4x4096x1, .i32⟩
  | .hbm, ⟨78, _⟩ => ⟨S1, .i32⟩
  | .hbm, ⟨79, _⟩ => ⟨S_, .i32⟩
  | .hbm, ⟨80, _⟩ => ⟨S4x4096x1, .i32⟩
  | .hbm, ⟨81, _⟩ => ⟨S4x4096x1, .i1⟩
  | .hbm, ⟨82, _⟩ => ⟨S1x1x1, .i32⟩
  | .hbm, ⟨83, _⟩ => ⟨S4x4096x1, .i32⟩
  | .hbm, ⟨84, _⟩ => ⟨S4x4096x1, .i1⟩
  | .hbm, ⟨85, _⟩ => ⟨S4x4096x1, .i1⟩
  | .hbm, ⟨86, _⟩ => ⟨S_, .i1⟩
  | .hbm, ⟨87, _⟩ => ⟨S4x4096, .i1⟩
  | .hbm, ⟨88, _⟩ => ⟨S4x4096x8, .f32⟩
  | .hbm, ⟨89, _⟩ => ⟨S4x4096x8, .i1⟩
  | .hbm, ⟨90, _⟩ => ⟨S_, .f32⟩
  | .hbm, ⟨91, _⟩ => ⟨S4x4096x8, .f32⟩
  | .hbm, ⟨92, _⟩ => ⟨S4x4096x8, .f32⟩
  | .hbm, ⟨93, _⟩ => ⟨S4x8x4096, .f32⟩
  | .hbm, ⟨94, _⟩ => ⟨S4x8x4096, .f32⟩
  | .hbm, ⟨95, _⟩ => ⟨S4x8x4096, .f32⟩
  | .hbm, ⟨96, _⟩ => ⟨S1024x8, .f32⟩
  | .hbm, ⟨97, _⟩ => ⟨S_, .f32⟩
  | .hbm, ⟨98, _⟩ => ⟨S1024, .f32⟩
  | .hbm, ⟨99, _⟩ => ⟨S1024x1, .f32⟩
  | .hbm, ⟨100, _⟩ => ⟨S1024x1, .f32⟩
  | .hbm, ⟨101, _⟩ => ⟨S1024x1, .f32⟩
  | .hbm, ⟨102, _⟩ => ⟨S1024x8, .f32⟩
  | .hbm, ⟨103, _⟩ => ⟨S1024x8, .f32⟩
  | .hbm, ⟨104, _⟩ => ⟨S1024x8, .f32⟩
  | .hbm, ⟨105, _⟩ => ⟨S1024x8, .f32⟩
  | .hbm, ⟨106, _⟩ => ⟨S4x4096x1024, .f32⟩
  | .hbm, ⟨107, _⟩ => ⟨S4x1024x4096, .f32⟩
  | .hbm, ⟨108, _⟩ => ⟨S1x1024x1, .f32⟩
  | .hbm, ⟨109, _⟩ => ⟨S4x1024x4096, .f32⟩
  | .hbm, ⟨110, _⟩ => ⟨S4x1024x4096, .f32⟩
  | .hbm, ⟨111, _⟩ => ⟨S_, .f32⟩
  | .hbm, ⟨112, _⟩ => ⟨S4, .f32⟩
  | .hbm, ⟨113, _⟩ => ⟨S_, .f32⟩
  | .hbm, ⟨114, _⟩ => ⟨S4, .f32⟩
  | _, _ => ⟨S4x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_cst : Ref sig .tc := ⟨.hbm, 26, rfl⟩
abbrev main_call0_v1 : Ref sig .tc := ⟨.hbm, 27, rfl⟩
abbrev main_call0_v2 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call1_v0 : Ref sig .tc := ⟨.hbm, 35, rfl⟩
abbrev main_call1_cst : Ref sig .tc := ⟨.hbm, 36, rfl⟩
abbrev main_call1_v1 : Ref sig .tc := ⟨.hbm, 37, rfl⟩
abbrev main_call1_v2 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call2_v0 : Ref sig .tc := ⟨.hbm, 64, rfl⟩
abbrev main_call2_cst : Ref sig .tc := ⟨.hbm, 65, rfl⟩
abbrev main_call2_c : Ref sig .tc := ⟨.hbm, 66, rfl⟩
abbrev main_call2_v1_0 : Ref sig .tc := ⟨.hbm, 67, rfl⟩
abbrev main_v42 : Ref sig .tc := ⟨.hbm, 68, rfl⟩
abbrev main_v43 : Ref sig .tc := ⟨.hbm, 69, rfl⟩
abbrev main_call3_c : Ref sig .tc := ⟨.hbm, 70, rfl⟩
abbrev main_call3_v0 : Ref sig .tc := ⟨.hbm, 71, rfl⟩
abbrev main_call3_v1 : Ref sig .tc := ⟨.hbm, 72, rfl⟩
abbrev main_call3_c_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_c_1 : Ref sig .tc := ⟨.hbm, 78, rfl⟩
abbrev main_call3_c_2 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_3 : Ref sig .tc := ⟨.hbm, 86, rfl⟩
abbrev main_call3_v12 : Ref sig .tc := ⟨.hbm, 87, rfl⟩
abbrev main_call3_v13 : Ref sig .tc := ⟨.hbm, 88, rfl⟩
abbrev main_call3_v14 : Ref sig .tc := ⟨.hbm, 89, rfl⟩
abbrev main_call3_cst : Ref sig .tc := ⟨.hbm, 90, rfl⟩
abbrev main_call3_v15 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_cst_5 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_6 : Ref sig .tc := ⟨.hbm, 111, rfl⟩
abbrev main_v62 : Ref sig .tc := ⟨.hbm, 112, rfl⟩
abbrev main_cst_7 : Ref sig .tc := ⟨.hbm, 113, rfl⟩
abbrev main_v63 : Ref sig .tc := ⟨.hbm, 114, rfl⟩

abbrev nD : Nat := 1
abbrev τ : Topo := Topo.v7x

variable {F : FTy → Type} [FloatOps F]
-- ==== Proof.RefOps.lean ====
/-
  The reference as a line of host operations. Its operations are cut into twelve stretches; a buffer that a stretch does
  not write keeps its contents across it.
-/
module

public import proofs.«01_k».proof.Defs
public import proofs.«01_k».proof.Proof.Gen.ReferenceIdeal
public import Idealize.ShloMosaic.Lib.Claim

@[expose] public section

noncomputable section

namespace Cert.Proof.Ref

open Idealize.ShloMosaic Idealize.SL.Sem Idealize.ShloMosaic.StableHlo
open Cert.ReferenceIdeal Cert.ReferenceIdeal.Facts₀ Cert.ReferenceIdeal.Facts

variable {F : FTy → Type} [FloatOps F]

/-- The operations of the projection, through `z_e`. -/
def opsEnc : List (HloOp τ sig (Elt F)) :=
  [ binary main_arg1 main_arg1 main_v0 (mulf : (⟨S8x1024, .f32⟩ : BufTy).Contents (Elt F) → (⟨S8x1024, .f32⟩ : BufTy).Contents (Elt F) → (⟨S8x1024, .f32⟩ : BufTy).Contents (Elt F)),
    nullary main_cst (constant S_ .f32 0x00000000#32),
    binary main_v0 main_cst main_v1 ((fun x v => Host.reduceAdd x v reducesTo_S8x1024_S8_d1 h_S_) : (⟨S8x1024, .f32⟩ : BufTy).Contents (Elt F) → (⟨S_, .f32⟩ : BufTy).Contents (Elt F) → (⟨S8, .f32⟩ : BufTy).Contents (Elt F)),
    unary main_v1 main_v2 (broadcastInDim S8x1 ![0] bcast_S8_S8x1_0 : (⟨S8, .f32⟩ : BufTy).Contents (Elt F) → (⟨S8x1, .f32⟩ : BufTy).Contents (Elt F)),
    unary main_v2 main_v3 (Host.sqrt : (⟨S8x1, .f32⟩ : BufTy).Contents (Elt F) → (⟨S8x1, .f32⟩ : BufTy).Contents (Elt F)),
    unary main_arg2 main_v4 (broadcastInDim S8x1 ![0] bcast_S8_S8x1_0 : (⟨S8, .f32⟩ : BufTy).Contents (Elt F) → (⟨S8x1, .f32⟩ : BufTy).Contents (Elt F)),
    unary main_v4 main_v5 (broadcastInDim S8x1024 ![0, 1] bcast_S8x1_S8x1024_0_1 : (⟨S8x1, .f32⟩ : BufTy).Contents (Elt F) → (⟨S8x1024, .f32⟩ : BufTy).Contents (Elt F)),
    binary main_v5 main_arg1 main_v6 (mulf : (⟨S8x1024, .f32⟩ : BufTy).Contents (Elt F) → (⟨S8x1024, .f32⟩ : BufTy).Contents (Elt F) → (⟨S8x1024, .f32⟩ : BufTy).Contents (Elt F)),
    unary main_v3 main_v7 (broadcastInDim S8x1024 ![0, 1] bcast_S8x1_S8x1024_0_1 : (⟨S8x1, .f32⟩ : BufTy).Contents (Elt F) → (⟨S8x1024, .f32⟩ : BufTy).Contents (Elt F)),
    binary main_v6 main_v7 main_v8 (Host.divf : (⟨S8x1024, .f32⟩ : BufTy).Contents (Elt F) → (⟨S8x1024, .f32⟩ : BufTy).Contents (Elt F) → (⟨S8x1024, .f32⟩ : BufTy).Contents (Elt F)),
    binary main_arg0 main_v8 main_v9 ((fun l r => Host.dotGeneral dot_S4x1024x4096_S8x1024_S4x4096x8_1_1_02_0_n_n none l r) : (⟨S4x1024x4096, .f32⟩ : BufTy).Contents (Elt F) → (⟨S8x1024, .f32⟩ : BufTy).Contents (Elt F) → (⟨S4x4096x8, .f32⟩ : BufTy).Contents (Elt F)),
    unary main_v9 main_v10 ((transpose S4x8x4096 [0, 2, 1] · transposes_S4x4096x8_S4x8x4096_0_2_1) : (⟨S4x4096x8, .f32⟩ : BufTy).Contents (Elt F) → (⟨S4x8x4096, .f32⟩ : BufTy).Contents (Elt F)),
    unary main_arg3 main_v11 (broadcastInDim S1x8x1 ![1] bcast_S8_S1x8x1_1 : (⟨S8, .f32⟩ : BufTy).Contents (Elt F) → (⟨S1x8x1, .f32⟩ : BufTy).Contents (Elt F)),
    unary main_v11 main_v12 (broadcastInDim S4x8x4096 ![0, 1, 2] bcast_S1x8x1_S4x8x4096_0_1_2 : (⟨S1x8x1, .f32⟩ : BufTy).Contents (Elt F) → (⟨S4x8x4096, .f32⟩ : BufTy).Contents (Elt F)),
    binary main_v10 main_v12 main_v13 (addf : (⟨S4x8x4096, .f32⟩ : BufTy).Contents (Elt F) → (⟨S4x8x4096, .f32⟩ : BufTy).Contents (Elt F) → (⟨S4x8x4096, .f32⟩ : BufTy).Contents (Elt F)) ]

/-- The columns of `z_e` laid out as rows. -/
def opsRows : List (HloOp τ sig (Elt F)) :=
  [ unary main_v13 main_v14 ((transpose S4x4096x8 [0, 2, 1] · transposes_S4x8x4096_S4x4096x8_0_2_1) : (⟨S4x8x4096, .f32⟩ : BufTy).Contents (Elt F) → (⟨S4x4096x8, .f32⟩ : BufTy).Contents (Elt F)),
    reshape main_v14 main_v15 (rfl : (.f32 : EltTy) = .f32) shapeCasts_S4x4096x8_S16384x8 ]

/-- The rows over their norms. -/
def opsNorm : List (HloOp τ sig (Elt F)) :=
  [ TRef.binary (.of main_v15) (.of main_v15) main_call0.v0 mulf,
    TRef.nullary main_call0.cst (constant S_ .f32 0x00000000#32),
    TRef.binary main_call0.v0 main_call0.cst main_call0.v1 (fun x v => Host.reduceAdd x v reducesTo_S16384x8_S16384_d1 h_S_),
    TRef.unary main_call0.v1 main_call0.v2 (broadcastInDim S16384x1 ![0] bcast_S16384_S16384x1_0),
    TRef.unary main_call0.v2 main_call0.v3 Host.sqrt,
    nullary main_cst_0 (constant S_ .f32 0x2B8CBCCC#32),
    unary main_cst_0 main_v17 (broadcastInDim S16384x1 ![] bcast_S_S16384x1 : (⟨S_, .f32⟩ : BufTy).Contents (Elt F) → (⟨S16384x1, .f32⟩ : BufTy).Contents (Elt F)),
    binary main_v16 main_v17 main_v18 (maximumf : (⟨S16384x1, .f32⟩ : BufTy).Contents (Elt F) → (⟨S16384x1, .f32⟩ : BufTy).Contents (Elt F) → (⟨S16384x1, .f32⟩ : BufTy).Contents (Elt F)),
    unary main_v18 main_v19 (broadcastInDim S16384x8 ![0, 1] bcast_S16384x1_S16384x8_0_1 : (⟨S16384x1, .f32⟩ : BufTy).Contents (Elt F) → (⟨S16384x8, .f32⟩ : BufTy).Contents (Elt F)),
    binary main_v15 main_v19 main_v20 (Host.divf : (⟨S16384x8, .f32⟩ : BufTy).Contents (Elt F) → (⟨S16384x8, .f32⟩ : BufTy).Contents (Elt F) → (⟨S16384x8, .f32⟩ : BufTy).Contents (Elt F)) ]

/-- The codes over their norms. -/
def opsCode : List (HloOp τ sig (Elt F)) :=
  [ TRef.binary (.of main_arg7) (.of main_arg7) main_call1.v0 mulf,
    TRef.nullary main_call1.cst (constant S_ .f32 0x00000000#32),
    TRef.binary main_call1.v0 main_call1.cst main_call1.v1 (fun x v => Host.reduceAdd x v reducesTo_S8192x8_S8192_d1 h_S_),
    TRef.unary main_call1.v1 main_call1.v2 (broadcastInDim S8192x1 ![0] bcast_S8192_S8192x1_0),
    TRef.unary main_call1.v2 main_call1.v3 Host.sqrt,
    nullary main_cst_1 (constant S_ .f32 0x2B8CBCCC#32),
    unary main_cst_1 main_v22 (broadcastInDim S8192x1 ![] bcast_S_S8192x1 : (⟨S_, .f32⟩ : BufTy).Contents (Elt F) → (⟨S8192x1, .f32⟩ : BufTy).Contents (Elt F)),
    binary main_v21 main_v22 main_v23 (maximumf : (⟨S8192x1, .f32⟩ : BufTy).Contents (Elt F) → (⟨S8192x1, .f32⟩ : BufTy).Contents (Elt F) → (⟨S8192x1, .f32⟩ : BufTy).Contents (Elt F)),
    unary main_v23 main_v24 (broadcastInDim S8192x8 ![0, 1] bcast_S8192x1_S8192x8_0_1 : (⟨S8192x1, .f32⟩ : BufTy).Contents (Elt F) → (⟨S8192x8, .f32⟩ : BufTy).Contents (Elt F)),
    binary main_arg7 main_v24 main_v25 (Host.divf : (⟨S8192x8, .f32⟩ : BufTy).Contents (Elt F) → (⟨S8192x8, .f32⟩ : BufTy).Contents (Elt F) → (⟨S8192x8, .f32⟩ : BufTy).Contents (Elt F)) ]

/-- The scores. -/
def opsScore : List (HloOp τ sig (Elt F)) :=
  [ binary main_v20 main_v20 main_v26 (mulf : (⟨S16384x8, .f32⟩ : BufTy).Contents (Elt F) → (⟨S16384x8, .f32⟩ : BufTy).Contents (Elt F) → (⟨S16384x8, .f32⟩ : BufTy).Contents (Elt F)),
    nullary main_cst_2 (constant S_ .f32 0x00000000#32),
    binary main_v26 main_cst_2 main_v27 ((fun x v => Host.reduceAdd x v reducesTo_S16384x8_S16384_d1 h_S_) : (⟨S16384x8, .f32⟩ : BufTy).Contents (Elt F) → (⟨S_, .f32⟩ : BufTy).Contents (Elt F) → (⟨S16384, .f32⟩ : BufTy).Contents (Elt F)),
    unary main_v27 main_v28 (broadcastInDim S16384x1 ![0] bcast_S16384_S16384x1_0 : (⟨S16384, .f32⟩ : BufTy).Contents (Elt F) → (⟨S16384x1, .f32⟩ : BufTy).Contents (Elt F)),
    nullary main_cst_3 (constant S_ .f32 0x40000000#32),
    unary main_cst_3 main_v29 (broadcastInDim S16384x8 ![] bcast_S_S16384x8 : (⟨S_, .f32⟩ : BufTy).Contents (Elt F) → (⟨S16384x8, .f32⟩ : BufTy).Contents (Elt F)),
    binary main_v29 main_v20 main_v30 (mulf : (⟨S16384x8, .f32⟩ : BufTy).Contents (Elt F) → (⟨S16384x8, .f32⟩ : BufTy).Contents (Elt F) → (⟨S16384x8, .f32⟩ : BufTy).Contents (Elt F)),
    unary main_v25 main_v31 ((transpose S8x8192 [1, 0] · transposes_S8192x8_S8x8192_1_0) : (⟨S8192x8, .f32⟩ : BufTy).Contents (Elt F) → (⟨S8x8192, .f32⟩ : BufTy).Contents (Elt F)),
    binary main_v30 main_v31 main_v32 ((fun l r => Host.dotGeneral dot_S16384x8_S8x8192_S16384x8192_1_0_0_1_n_n none l r) : (⟨S16384x8, .f32⟩ : BufTy).Contents (Elt F) → (⟨S8x8192, .f32⟩ : BufTy).Contents (Elt F) → (⟨S16384x8192, .f32⟩ : BufTy).Contents (Elt F)),
    unary main_v28 main_v33 (broadcastInDim S16384x8192 ![0, 1] bcast_S16384x1_S16384x8192_0_1 : (⟨S16384x1, .f32⟩ : BufTy).Contents (Elt F) → (⟨S16384x8192, .f32⟩ : BufTy).Contents (Elt F)),
    binary main_v33 main_v32 main_v34 (subf : (⟨S16384x8192, .f32⟩ : BufTy).Contents (Elt F) → (⟨S16384x8192, .f32⟩ : BufTy).Contents (Elt F) → (⟨S16384x8192, .f32⟩ : BufTy).Contents (Elt F)),
    binary main_v25 main_v25 main_v35 (mulf : (⟨S8192x8, .f32⟩ : BufTy).Contents (Elt F) → (⟨S8192x8, .f32⟩ : BufTy).Contents (Elt F) → (⟨S8192x8, .f32⟩ : BufTy).Contents (Elt F)),
    nullary main_cst_4 (constant S_ .f32 0x00000000#32),
    binary main_v35 main_cst_4 main_v36 ((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)),
    unary main_v36 main_v37 (broadcastInDim S8192x1 ![0] bcast_S8192_S8192x1_0 : (⟨S8192, .f32⟩ : BufTy).Contents (Elt F) → (⟨S8192x1, .f32⟩ : BufTy).Contents (Elt F)),
    unary main_v37 main_v38 ((transpose S1x8192 [1, 0] · transposes_S8192x1_S1x8192_1_0) : (⟨S8192x1, .f32⟩ : BufTy).Contents (Elt F) → (⟨S1x8192, .f32⟩ : BufTy).Contents (Elt F)),
    unary main_v38 main_v39 (broadcastInDim S16384x8192 ![0, 1] bcast_S1x8192_S16384x8192_0_1 : (⟨S1x8192, .f32⟩ : BufTy).Contents (Elt F) → (⟨S16384x8192, .f32⟩ : BufTy).Contents (Elt F)),
    binary main_v34 main_v39 main_v40 (addf : (⟨S16384x8192, .f32⟩ : BufTy).Contents (Elt F) → (⟨S16384x8192, .f32⟩ : BufTy).Contents (Elt F) → (⟨S16384x8192, .f32⟩ : BufTy).Contents (Elt F)),
    unary main_v40 main_v41 (Host.negf : (⟨S16384x8192, .f32⟩ : BufTy).Contents (Elt F) → (⟨S16384x8192, .f32⟩ : BufTy).Contents (Elt F)) ]

/-- The arg-max of each row of scores. -/
def opsBest : List (HloOp τ sig (Elt F)) :=
  [ TRef.nullary main_call2.v0 (iotaInDim S16384x8192 32 1),
    TRef.nullary main_call2.cst (constant S_ .f32 0xFF800000#32),
    TRef.nullary main_call2.c (constantI S_ 32 0#32),
    TRef.quaternary (.of main_v41) main_call2.v0 main_call2.cst main_call2.c main_call2.v1_0 (fun x y u v j => (Host.argReduce reducer_argmax_f32_i32 x y u v reducesTo_S16384x8192_S16384_d1 h_S_ j).1),
    TRef.quaternary (.of main_v41) main_call2.v0 main_call2.cst main_call2.c main_call2.v1_1 (fun x y u v j => (Host.argReduce reducer_argmax_f32_i32 x y u v reducesTo_S16384x8192_S16384_d1 h_S_ j).2) ]

/-- The arg-maxes laid out as the indices. -/
def opsIdx : List (HloOp τ sig (Elt F)) :=
  [ reshape main_v42 main_v43 (rfl : (.i32 : EltTy) = .i32) shapeCasts_S16384_S4x4096 ]

/-- The indices, a negative one wrapped. -/
def opsWrap : List (HloOp τ sig (Elt F)) :=
  [ TRef.nullary main_call3.c (constantI S_ 32 0#32),
    TRef.unary main_call3.c main_call3.v0 (broadcastInDim S4x4096 ![] bcast_S_S4x4096),
    TRef.binary (.of main_v43) main_call3.v0 main_call3.v1 (cmpi .slt),
    TRef.nullary main_call3.c_0 (constantI S_ 32 8192#32),
    TRef.unary main_call3.c_0 main_call3.v2 (broadcastInDim S4x4096 ![] bcast_S_S4x4096),
    TRef.binary (.of main_v43) main_call3.v2 main_call3.v3 addi,
    TRef.ternary main_call3.v1 main_call3.v3 (.of main_v43) main_call3.call0.v0 select,
    TRef.unary main_call3.call0.v0 main_call3.v5 (broadcastInDim S4x4096x1 ![0, 1] bcast_S4x4096_S4x4096x1_0_1) ]

/-- Whether each index lies inside the codebook. -/
def opsIns : List (HloOp τ sig (Elt F)) :=
  [ TRef.nullary main_call3.c_1 (constantI S1 32 8191#32),
    TRef.nullary main_call3.c_2 (constantI S_ 32 0#32),
    TRef.unary main_call3.c_2 main_call3.v6 (broadcastInDim S4x4096x1 ![] bcast_S_S4x4096x1),
    TRef.binary main_call3.v5 main_call3.v6 main_call3.v7 (cmpi .sge),
    TRef.unary main_call3.c_1 main_call3.v8 (broadcastInDim S1x1x1 ![2] bcast_S1_S1x1x1_2),
    TRef.unary main_call3.v8 main_call3.v9 (broadcastInDim S4x4096x1 ![0, 1, 2] bcast_S1x1x1_S4x4096x1_0_1_2),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S4x4096x1_S4x4096_d2 h_S_) ]

/-- The codes at the indices. -/
def opsTake : List (HloOp τ sig (Elt F)) :=
  [ TRef.binary (.of main_arg7) main_call3.v5 main_call3.v13 (fun x i => Host.gather gather_S8192x8_S4x4096x1_S4x4096x8_2_0_n_n_0_2_18 x i),
    TRef.unary main_call3.v12 main_call3.v14 (broadcastInDim S4x4096x8 ![0, 1] bcast_S4x4096_S4x4096x8_0_1),
    TRef.nullary main_call3.cst (constant S_ .f32 0x7FC00000#32),
    TRef.unary main_call3.cst main_call3.v15 (broadcastInDim S4x4096x8 ![] bcast_S_S4x4096x8),
    TRef.ternary main_call3.v14 main_call3.v13 main_call3.v15 main_call3.v16 select ]

/-- `z_e + (code - z_e)`. -/
def opsZq : List (HloOp τ sig (Elt F)) :=
  [ unary main_v44 main_v45 ((transpose S4x8x4096 [0, 2, 1] · transposes_S4x4096x8_S4x8x4096_0_2_1) : (⟨S4x4096x8, .f32⟩ : BufTy).Contents (Elt F) → (⟨S4x8x4096, .f32⟩ : BufTy).Contents (Elt F)),
    binary main_v45 main_v13 main_v46 (subf : (⟨S4x8x4096, .f32⟩ : BufTy).Contents (Elt F) → (⟨S4x8x4096, .f32⟩ : BufTy).Contents (Elt F) → (⟨S4x8x4096, .f32⟩ : BufTy).Contents (Elt F)),
    binary main_v13 main_v46 main_v47 (addf : (⟨S4x8x4096, .f32⟩ : BufTy).Contents (Elt F) → (⟨S4x8x4096, .f32⟩ : BufTy).Contents (Elt F) → (⟨S4x8x4096, .f32⟩ : BufTy).Contents (Elt F)) ]

/-- The operations of the projection back, and the two zero results. -/
def opsOut : List (HloOp τ sig (Elt F)) :=
  [ binary main_arg4 main_arg4 main_v48 (mulf : (⟨S1024x8, .f32⟩ : BufTy).Contents (Elt F) → (⟨S1024x8, .f32⟩ : BufTy).Contents (Elt F) → (⟨S1024x8, .f32⟩ : BufTy).Contents (Elt F)),
    nullary main_cst_5 (constant S_ .f32 0x00000000#32),
    binary main_v48 main_cst_5 main_v49 ((fun x v => Host.reduceAdd x v reducesTo_S1024x8_S1024_d1 h_S_) : (⟨S1024x8, .f32⟩ : BufTy).Contents (Elt F) → (⟨S_, .f32⟩ : BufTy).Contents (Elt F) → (⟨S1024, .f32⟩ : BufTy).Contents (Elt F)),
    unary main_v49 main_v50 (broadcastInDim S1024x1 ![0] bcast_S1024_S1024x1_0 : (⟨S1024, .f32⟩ : BufTy).Contents (Elt F) → (⟨S1024x1, .f32⟩ : BufTy).Contents (Elt F)),
    unary main_v50 main_v51 (Host.sqrt : (⟨S1024x1, .f32⟩ : BufTy).Contents (Elt F) → (⟨S1024x1, .f32⟩ : BufTy).Contents (Elt F)),
    unary main_arg5 main_v52 (broadcastInDim S1024x1 ![0] bcast_S1024_S1024x1_0 : (⟨S1024, .f32⟩ : BufTy).Contents (Elt F) → (⟨S1024x1, .f32⟩ : BufTy).Contents (Elt F)),
    unary main_v52 main_v53 (broadcastInDim S1024x8 ![0, 1] bcast_S1024x1_S1024x8_0_1 : (⟨S1024x1, .f32⟩ : BufTy).Contents (Elt F) → (⟨S1024x8, .f32⟩ : BufTy).Contents (Elt F)),
    binary main_v53 main_arg4 main_v54 (mulf : (⟨S1024x8, .f32⟩ : BufTy).Contents (Elt F) → (⟨S1024x8, .f32⟩ : BufTy).Contents (Elt F) → (⟨S1024x8, .f32⟩ : BufTy).Contents (Elt F)),
    unary main_v51 main_v55 (broadcastInDim S1024x8 ![0, 1] bcast_S1024x1_S1024x8_0_1 : (⟨S1024x1, .f32⟩ : BufTy).Contents (Elt F) → (⟨S1024x8, .f32⟩ : BufTy).Contents (Elt F)),
    binary main_v54 main_v55 main_v56 (Host.divf : (⟨S1024x8, .f32⟩ : BufTy).Contents (Elt F) → (⟨S1024x8, .f32⟩ : BufTy).Contents (Elt F) → (⟨S1024x8, .f32⟩ : BufTy).Contents (Elt F)),
    binary main_v47 main_v56 main_v57 ((fun l r => Host.dotGeneral dot_S4x8x4096_S1024x8_S4x4096x1024_1_1_02_0_n_n none l r) : (⟨S4x8x4096, .f32⟩ : BufTy).Contents (Elt F) → (⟨S1024x8, .f32⟩ : BufTy).Contents (Elt F) → (⟨S4x4096x1024, .f32⟩ : BufTy).Contents (Elt F)),
    unary main_v57 main_v58 ((transpose S4x1024x4096 [0, 2, 1] · transposes_S4x4096x1024_S4x1024x4096_0_2_1) : (⟨S4x4096x1024, .f32⟩ : BufTy).Contents (Elt F) → (⟨S4x1024x4096, .f32⟩ : BufTy).Contents (Elt F)),
    unary main_arg6 main_v59 (broadcastInDim S1x1024x1 ![1] bcast_S1024_S1x1024x1_1 : (⟨S1024, .f32⟩ : BufTy).Contents (Elt F) → (⟨S1x1024x1, .f32⟩ : BufTy).Contents (Elt F)),
    unary main_v59 main_v60 (broadcastInDim S4x1024x4096 ![0, 1, 2] bcast_S1x1024x1_S4x1024x4096_0_1_2 : (⟨S1x1024x1, .f32⟩ : BufTy).Contents (Elt F) → (⟨S4x1024x4096, .f32⟩ : BufTy).Contents (Elt F)),
    binary main_v58 main_v60 main_v61 (addf : (⟨S4x1024x4096, .f32⟩ : BufTy).Contents (Elt F) → (⟨S4x1024x4096, .f32⟩ : BufTy).Contents (Elt F) → (⟨S4x1024x4096, .f32⟩ : BufTy).Contents (Elt F)),
    nullary main_cst_6 (constant S_ .f32 0x00000000#32),
    unary main_cst_6 main_v62 (broadcastInDim S4 ![] bcast_S_S4 : (⟨S_, .f32⟩ : BufTy).Contents (Elt F) → (⟨S4, .f32⟩ : BufTy).Contents (Elt F)),
    nullary main_cst_7 (constant S_ .f32 0x00000000#32),
    unary main_cst_7 main_v63 (broadcastInDim S4 ![] bcast_S_S4 : (⟨S_, .f32⟩ : BufTy).Contents (Elt F) → (⟨S4, .f32⟩ : BufTy).Contents (Elt F)) ]

/-- The whole line. -/
def ops : List (HloOp τ sig (Elt F)) := opsEnc ++ (opsRows ++ (opsNorm ++ (opsCode ++ (opsScore ++ (opsBest ++ (opsIdx ++ (opsWrap ++ (opsIns ++ (opsTake ++ (opsZq ++ (opsOut)))))))))))

set_option maxRecDepth 16384 in
set_option maxHeartbeats 4000000 in
/-- The reference runs exactly these operations. -/
theorem main_eq (c : Dev nD) : main (F := F) c = seq ops := by
  simp only [main, main_part0, main_part1, fn_norm.body, fn_norm_0.body, fn_argmax.body, fn_where.body, fn_take.body, ops, opsEnc, opsRows, opsNorm, opsCode, opsScore, opsBest, opsIdx, opsWrap, opsIns, opsTake, opsZq, opsOut,
    List.cons_append, List.nil_append, seq, bind_assoc, pure_bind]

theorem opsEnc_sub : (opsEnc : List (HloOp τ sig (Elt F))).Forall fun op => op.bufs ⊆ tcRefs τ sig :=
  ⟨binary_bufs_sub .., nullary_bufs_sub .., binary_bufs_sub .., unary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub ..⟩

theorem opsRows_sub : (opsRows : List (HloOp τ sig (Elt F))).Forall fun op => op.bufs ⊆ tcRefs τ sig :=
  ⟨unary_bufs_sub .., reshape_bufs_sub ..⟩

theorem opsNorm_sub : (opsNorm : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩

theorem opsCode_sub : (opsCode : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩

theorem opsScore_sub : (opsScore : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., unary_bufs_sub .., binary_bufs_sub .., unary_bufs_sub ..⟩

theorem opsBest_sub : (opsBest : List (HloOp τ sig (Elt F))).Forall fun op => op.bufs ⊆ tcRefs τ sig :=
  ⟨nullary_bufs_sub .., nullary_bufs_sub .., nullary_bufs_sub .., quaternary_bufs_sub .., quaternary_bufs_sub ..⟩

theorem opsIdx_sub : (opsIdx : List (HloOp τ sig (Elt F))).Forall fun op => op.bufs ⊆ tcRefs τ sig :=
  reshape_bufs_sub ..

theorem opsWrap_sub : (opsWrap : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩

theorem opsIns_sub : (opsIns : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub .., nullary_bufs_sub .., binary_bufs_sub ..⟩

theorem opsTake_sub : (opsTake : List (HloOp τ sig (Elt F))).Forall fun op => op.bufs ⊆ tcRefs τ sig :=
  ⟨binary_bufs_sub .., unary_bufs_sub .., nullary_bufs_sub .., unary_bufs_sub .., ternary_bufs_sub ..⟩

theorem opsZq_sub : (opsZq : List (HloOp τ sig (Elt F))).Forall fun op => op.bufs ⊆ tcRefs τ sig :=
  ⟨unary_bufs_sub .., binary_bufs_sub .., binary_bufs_sub ..⟩

theorem opsOut_sub : (opsOut : List (HloOp τ sig (Elt F))).Forall fun op => op.bufs ⊆ tcRefs τ sig :=
  ⟨binary_bufs_sub .., nullary_bufs_sub .., binary_bufs_sub .., unary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., nullary_bufs_sub .., unary_bufs_sub .., nullary_bufs_sub .., unary_bufs_sub ..⟩

theorem ops_sub : (ops : List (HloOp τ sig (Elt F))).Forall fun op => op.bufs ⊆ tcRefs τ sig :=
  List.forall_append.2 ⟨opsEnc_sub, List.forall_append.2 ⟨opsRows_sub, List.forall_append.2 ⟨opsNorm_sub, List.forall_append.2 ⟨opsCode_sub, List.forall_append.2 ⟨opsScore_sub, List.forall_append.2 ⟨opsBest_sub, List.forall_append.2 ⟨opsIdx_sub, List.forall_append.2 ⟨opsWrap_sub, List.forall_append.2 ⟨opsIns_sub, List.forall_append.2 ⟨opsTake_sub, List.forall_append.2 ⟨opsZq_sub, opsOut_sub⟩⟩⟩⟩⟩⟩⟩⟩⟩⟩⟩

theorem opsEnc_fresh : (opsEnc : List (HloOp τ sig (Elt F))).Forall fun op => op.fresh = ∅ := forall_fresh_of_map rfl
theorem opsRows_fresh : (opsRows : List (HloOp τ sig (Elt F))).Forall fun op => op.fresh = ∅ := forall_fresh_of_map rfl
theorem opsNorm_fresh : (opsNorm : List (HloOp τ sig (Elt F))).Forall fun op => op.fresh = ∅ := forall_fresh_of_map rfl
theorem opsCode_fresh : (opsCode : List (HloOp τ sig (Elt F))).Forall fun op => op.fresh = ∅ := forall_fresh_of_map rfl
theorem opsScore_fresh : (opsScore : List (HloOp τ sig (Elt F))).Forall fun op => op.fresh = ∅ := forall_fresh_of_map rfl
theorem opsBest_fresh : (opsBest : List (HloOp τ sig (Elt F))).Forall fun op => op.fresh = ∅ := forall_fresh_of_map rfl
theorem opsIdx_fresh : (opsIdx : List (HloOp τ sig (Elt F))).Forall fun op => op.fresh = ∅ := forall_fresh_of_map rfl
theorem opsWrap_fresh : (opsWrap : List (HloOp τ sig (Elt F))).Forall fun op => op.fresh = ∅ := forall_fresh_of_map rfl
theorem opsIns_fresh : (opsIns : List (HloOp τ sig (Elt F))).Forall fun op => op.fresh = ∅ := forall_fresh_of_map rfl
theorem opsTake_fresh : (opsTake : List (HloOp τ sig (Elt F))).Forall fun op => op.fresh = ∅ := forall_fresh_of_map rfl
theorem opsZq_fresh : (opsZq : List (HloOp τ sig (Elt F))).Forall fun op => op.fresh = ∅ := forall_fresh_of_map rfl
theorem opsOut_fresh : (opsOut : List (HloOp τ sig (Elt F))).Forall fun op => op.fresh = ∅ := forall_fresh_of_map rfl

theorem fresh_eq : ∀ op ∈ (ops : List (HloOp τ sig (Elt F))), op.fresh = ∅ :=
  List.forall_iff_forall_mem.1 (List.forall_append.2 ⟨opsEnc_fresh, List.forall_append.2 ⟨opsRows_fresh, List.forall_append.2 ⟨opsNorm_fresh, List.forall_append.2 ⟨opsCode_fresh, List.forall_append.2 ⟨opsScore_fresh, List.forall_append.2 ⟨opsBest_fresh, List.forall_append.2 ⟨opsIdx_fresh, List.forall_append.2 ⟨opsWrap_fresh, List.forall_append.2 ⟨opsIns_fresh, List.forall_append.2 ⟨opsTake_fresh, List.forall_append.2 ⟨opsZq_fresh, opsOut_fresh⟩⟩⟩⟩⟩⟩⟩⟩⟩⟩⟩)

theorem scopedRefs_eq : (Finset.univ.filter fun b : Ref sig .tc => b.isScoped) = ∅ := by decide
theorem scopedSems_eq : (Finset.univ.filter fun sm : SemLoc sig => sm.isScoped .tc) = ∅ := by decide

/-- Every buffer ends at the line's fold over its contents at the launch. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => fresh_eq)

/-! ## What each stretch writes -/

def opsEnc_W : List (Ref sig .tc) := [main_v0, main_cst, main_v1, main_v2, main_v3, main_v4, main_v5, main_v6, main_v7, main_v8, main_v9, main_v10, main_v11, main_v12, main_v13]

theorem opsEnc_keep (V : Valuation τ sig (Elt F)) (r : Ref sig .tc) (h : r ∉ opsEnc_W) :
    after opsEnc V (Proc.devRef .tc r) = V (Proc.devRef .tc r) :=
  after_of_writes_sub opsEnc V (forall_writes_sub_of_map (W := opsEnc_W) rfl) h

def opsRows_W : List (Ref sig .tc) := [main_v14, main_v15]

theorem opsRows_keep (V : Valuation τ sig (Elt F)) (r : Ref sig .tc) (h : r ∉ opsRows_W) :
    after opsRows V (Proc.devRef .tc r) = V (Proc.devRef .tc r) :=
  after_of_writes_sub opsRows V (forall_writes_sub_of_map (W := opsRows_W) rfl) h

def opsNorm_W : List (Ref sig .tc) := [main_call0_v0, main_call0_cst, main_call0_v1, main_call0_v2, main_v16, main_cst_0, main_v17, main_v18, main_v19, main_v20]

theorem opsNorm_keep (V : Valuation τ sig (Elt F)) (r : Ref sig .tc) (h : r ∉ opsNorm_W) :
    after opsNorm V (Proc.devRef .tc r) = V (Proc.devRef .tc r) :=
  after_of_writes_sub opsNorm V (forall_writes_sub_of_map (W := opsNorm_W) rfl) h

def opsCode_W : List (Ref sig .tc) := [main_call1_v0, main_call1_cst, main_call1_v1, main_call1_v2, main_v21, main_cst_1, main_v22, main_v23, main_v24, main_v25]

theorem opsCode_keep (V : Valuation τ sig (Elt F)) (r : Ref sig .tc) (h : r ∉ opsCode_W) :
    after opsCode V (Proc.devRef .tc r) = V (Proc.devRef .tc r) :=
  after_of_writes_sub opsCode V (forall_writes_sub_of_map (W := opsCode_W) rfl) h

def opsScore_W : List (Ref sig .tc) := [main_v26, main_cst_2, main_v27, main_v28, main_cst_3, main_v29, main_v30, main_v31, main_v32, main_v33, main_v34, main_v35, main_cst_4, main_v36, main_v37, main_v38, main_v39, main_v40, main_v41]

theorem opsScore_keep (V : Valuation τ sig (Elt F)) (r : Ref sig .tc) (h : r ∉ opsScore_W) :
    after opsScore V (Proc.devRef .tc r) = V (Proc.devRef .tc r) :=
  after_of_writes_sub opsScore V (forall_writes_sub_of_map (W := opsScore_W) rfl) h

def opsBest_W : List (Ref sig .tc) := [main_call2_v0, main_call2_cst, main_call2_c, main_call2_v1_0, main_v42]

theorem opsBest_keep (V : Valuation τ sig (Elt F)) (r : Ref sig .tc) (h : r ∉ opsBest_W) :
    after opsBest V (Proc.devRef .tc r) = V (Proc.devRef .tc r) :=
  after_of_writes_sub opsBest V (forall_writes_sub_of_map (W := opsBest_W) rfl) h

def opsIdx_W : List (Ref sig .tc) := [main_v43]

theorem opsIdx_keep (V : Valuation τ sig (Elt F)) (r : Ref sig .tc) (h : r ∉ opsIdx_W) :
    after opsIdx V (Proc.devRef .tc r) = V (Proc.devRef .tc r) :=
  after_of_writes_sub opsIdx V (forall_writes_sub_of_map (W := opsIdx_W) rfl) h

def opsWrap_W : List (Ref sig .tc) := [main_call3_c, main_call3_v0, main_call3_v1, main_call3_c_0, main_call3_v2, main_call3_v3, main_call3_v4, main_call3_v5]

theorem opsWrap_keep (V : Valuation τ sig (Elt F)) (r : Ref sig .tc) (h : r ∉ opsWrap_W) :
    after opsWrap V (Proc.devRef .tc r) = V (Proc.devRef .tc r) :=
  after_of_writes_sub opsWrap V (forall_writes_sub_of_map (W := opsWrap_W) rfl) h

def opsIns_W : List (Ref sig .tc) := [main_call3_c_1, main_call3_c_2, main_call3_v6, main_call3_v7, main_call3_v8, main_call3_v9, main_call3_v10, main_call3_v11, main_call3_c_3, main_call3_v12]

theorem opsIns_keep (V : Valuation τ sig (Elt F)) (r : Ref sig .tc) (h : r ∉ opsIns_W) :
    after opsIns V (Proc.devRef .tc r) = V (Proc.devRef .tc r) :=
  after_of_writes_sub opsIns V (forall_writes_sub_of_map (W := opsIns_W) rfl) h

def opsTake_W : List (Ref sig .tc) := [main_call3_v13, main_call3_v14, main_call3_cst, main_call3_v15, main_v44]

theorem opsTake_keep (V : Valuation τ sig (Elt F)) (r : Ref sig .tc) (h : r ∉ opsTake_W) :
    after opsTake V (Proc.devRef .tc r) = V (Proc.devRef .tc r) :=
  after_of_writes_sub opsTake V (forall_writes_sub_of_map (W := opsTake_W) rfl) h

def opsZq_W : List (Ref sig .tc) := [main_v45, main_v46, main_v47]

theorem opsZq_keep (V : Valuation τ sig (Elt F)) (r : Ref sig .tc) (h : r ∉ opsZq_W) :
    after opsZq V (Proc.devRef .tc r) = V (Proc.devRef .tc r) :=
  after_of_writes_sub opsZq V (forall_writes_sub_of_map (W := opsZq_W) rfl) h

def opsOut_W : List (Ref sig .tc) := [main_v48, main_cst_5, main_v49, main_v50, main_v51, main_v52, main_v53, main_v54, main_v55, main_v56, main_v57, main_v58, main_v59, main_v60, main_v61, main_cst_6, main_v62, main_cst_7, main_v63]

theorem opsOut_keep (V : Valuation τ sig (Elt F)) (r : Ref sig .tc) (h : r ∉ opsOut_W) :
    after opsOut V (Proc.devRef .tc r) = V (Proc.devRef .tc r) :=
  after_of_writes_sub opsOut V (forall_writes_sub_of_map (W := opsOut_W) rfl) h

/-- The fold over two lines, one after the other. -/
theorem after_two (l₁ l₂ : List (HloOp τ sig (Elt F))) (V : Valuation τ sig (Elt F)) : after (l₁ ++ l₂) V = after l₂ (after l₁ V) := by
  induction l₁ generalizing V with
  | nil => rfl
  | cons a l ih => exact ih _

end Cert.Proof.Ref

end
-- ==== Proof.RefRun.lean ====
/-
  What each stretch of the reference leaves in its result, as a function of the arrays that it reads, and from these the
  reference's run: the arguments as they were, the five results as functions of the arguments.
-/
module

public import proofs.«01_k».proof.Proof.RefOps

@[expose] public section

noncomputable section

namespace Cert.Proof.Ref

open Idealize.ShloMosaic Idealize.SL.Sem Idealize.ShloMosaic.StableHlo
open Cert.ReferenceIdeal Cert.ReferenceIdeal.Facts₀ Cert.ReferenceIdeal.Facts

variable {F : FTy → Type} [FloatOps F]

/-! ## The values -/

/-- `g · v / ‖v‖`, row by row, of the projection in. -/
def weightIn (v : FVec F S8x1024 .f32) (g : FVec F S8 .f32) : FVec F S8x1024 .f32 :=
  Host.divf (mulf (broadcastInDim S8x1024 ![0, 1] bcast_S8x1_S8x1024_0_1 (broadcastInDim S8x1 ![0] bcast_S8_S8x1_0 g)) v)
    (broadcastInDim S8x1024 ![0, 1] bcast_S8x1_S8x1024_0_1
      (Host.sqrt (broadcastInDim S8x1 ![0] bcast_S8_S8x1_0
        (Host.reduceAdd (mulf v v) (constant S_ .f32 0x00000000#32) reducesTo_S8x1024_S8_d1 h_S_))))

/-- `z_e`: the projection in. -/
def ze (z : FVec F S4x1024x4096 .f32) (v : FVec F S8x1024 .f32) (g b : FVec F S8 .f32) : FVec F S4x8x4096 .f32 :=
  addf (transpose S4x8x4096 [0, 2, 1]
      (Host.dotGeneral dot_S4x1024x4096_S8x1024_S4x4096x8_1_1_02_0_n_n none z (weightIn v g)) transposes_S4x4096x8_S4x8x4096_0_2_1)
    (broadcastInDim S4x8x4096 ![0, 1, 2] bcast_S1x8x1_S4x8x4096_0_1_2 (broadcastInDim S1x8x1 ![1] bcast_S8_S1x8x1_1 b))

/-- The columns of `z_e` as rows. -/
def rows (e : FVec F S4x8x4096 .f32) : FVec F S16384x8 .f32 :=
  shapeCast S16384x8 (transpose S4x4096x8 [0, 2, 1] e transposes_S4x8x4096_S4x4096x8_0_2_1) shapeCasts_S4x4096x8_S16384x8

/-- Rows over their norms, the norm at least the small constant. -/
def normRows (x : FVec F S16384x8 .f32) : FVec F S16384x8 .f32 :=
  Host.divf x (broadcastInDim S16384x8 ![0, 1] bcast_S16384x1_S16384x8_0_1
    (maximumf (Host.sqrt (broadcastInDim S16384x1 ![0] bcast_S16384_S16384x1_0
        (Host.reduceAdd (mulf x x) (constant S_ .f32 0x00000000#32) reducesTo_S16384x8_S16384_d1 h_S_)))
      (broadcastInDim S16384x1 ![] bcast_S_S16384x1 (constant S_ .f32 0x2B8CBCCC#32))))

/-- The codes over their norms, the norm at least the small constant. -/
def normCodes (x : FVec F S8192x8 .f32) : FVec F S8192x8 .f32 :=
  Host.divf x (broadcastInDim S8192x8 ![0, 1] bcast_S8192x1_S8192x8_0_1
    (maximumf (Host.sqrt (broadcastInDim S8192x1 ![0] bcast_S8192_S8192x1_0
        (Host.reduceAdd (mulf x x) (constant S_ .f32 0x00000000#32) reducesTo_S8192x8_S8192_d1 h_S_)))
      (broadcastInDim S8192x1 ![] bcast_S_S8192x1 (constant S_ .f32 0x2B8CBCCC#32))))

/-- The negated squared distances of normalised rows `x` from normalised codes `c`. -/
def scores (x : FVec F S16384x8 .f32) (c : FVec F S8192x8 .f32) : FVec F S16384x8192 .f32 :=
  Host.negf (addf
    (subf (broadcastInDim S16384x8192 ![0, 1] bcast_S16384x1_S16384x8192_0_1
        (broadcastInDim S16384x1 ![0] bcast_S16384_S16384x1_0
          (Host.reduceAdd (mulf x x) (constant S_ .f32 0x00000000#32) reducesTo_S16384x8_S16384_d1 h_S_)))
      (Host.dotGeneral dot_S16384x8_S8x8192_S16384x8192_1_0_0_1_n_n none
        (mulf (broadcastInDim S16384x8 ![] bcast_S_S16384x8 (constant S_ .f32 0x40000000#32)) x)
        (transpose S8x8192 [1, 0] c transposes_S8192x8_S8x8192_1_0)))
    (broadcastInDim S16384x8192 ![0, 1] bcast_S1x8192_S16384x8192_0_1
      (transpose S1x8192 [1, 0] (broadcastInDim S8192x1 ![0] bcast_S8192_S8192x1_0
        (Host.reduceAdd (mulf c c) (constant S_ .f32 0x00000000#32) reducesTo_S8192x8_S8192_d1 h_S_)) transposes_S8192x1_S1x8192_1_0)))

/-- The arg-max of each row of scores. -/
def best (s : FVec F S16384x8192 .f32) : IVec S16384 32 := fun j =>
  (Host.argReduce reducer_argmax_f32_i32 s (iotaInDim S16384x8192 32 1) (constant S_ .f32 0xFF800000#32) (constantI S_ 32 0#32)
    reducesTo_S16384x8192_S16384_d1 h_S_ j).2

/-- The indices: the nearest code of each column of `z_e`. -/
def indices (e : FVec F S4x8x4096 .f32) (cb : FVec F S8192x8 .f32) : IVec S4x4096 32 :=
  shapeCast S4x4096 (best (scores (normRows (rows e)) (normCodes cb))) shapeCasts_S16384_S4x4096

/-- An index with the codebook's length added where it is negative, as a column. -/
def wrapped (i : IVec S4x4096 32) : IVec S4x4096x1 32 :=
  broadcastInDim S4x4096x1 ![0, 1] bcast_S4x4096_S4x4096x1_0_1
    (select (cmpi .slt i (broadcastInDim S4x4096 ![] bcast_S_S4x4096 (constantI S_ 32 0#32)))
      (addi i (broadcastInDim S4x4096 ![] bcast_S_S4x4096 (constantI S_ 32 8192#32))) i)

/-- Whether a wrapped index lies inside the codebook. -/
def inside (w : IVec S4x4096x1 32) : IVec S4x4096 1 :=
  Host.reduce IntOp.andi
    (andi (cmpi .sge w (broadcastInDim S4x4096x1 ![] bcast_S_S4x4096x1 (constantI S_ 32 0#32)))
      (cmpi .sle w (broadcastInDim S4x4096x1 ![0, 1, 2] bcast_S1x1x1_S4x4096x1_0_1_2
        (broadcastInDim S1x1x1 ![2] bcast_S1_S1x1x1_2 (constantI S1 32 8191#32)))))
    (constantI S_ 1 1#1) reducesTo_S4x4096x1_S4x4096_d2 h_S_

/-- The codes at the indices. -/
def taken (cb : FVec F S8192x8 .f32) (i : IVec S4x4096 32) : FVec F S4x4096x8 .f32 :=
  select (broadcastInDim S4x4096x8 ![0, 1] bcast_S4x4096_S4x4096x8_0_1 (inside (wrapped i)))
    (Host.gather gather_S8192x8_S4x4096x1_S4x4096x8_2_0_n_n_0_2_18 cb (wrapped i))
    (broadcastInDim S4x4096x8 ![] bcast_S_S4x4096x8 (constant S_ .f32 0x7FC00000#32))

/-- `z_e + (codes - z_e)`. -/
def zq (e : FVec F S4x8x4096 .f32) (cb : FVec F S8192x8 .f32) (i : IVec S4x4096 32) : FVec F S4x8x4096 .f32 :=
  addf e (subf (transpose S4x8x4096 [0, 2, 1] (taken cb i) transposes_S4x4096x8_S4x8x4096_0_2_1) e)

/-- `g · v / ‖v‖`, row by row, of the projection back. -/
def weightOut (v : FVec F S1024x8 .f32) (g : FVec F S1024 .f32) : FVec F S1024x8 .f32 :=
  Host.divf (mulf (broadcastInDim S1024x8 ![0, 1] bcast_S1024x1_S1024x8_0_1 (broadcastInDim S1024x1 ![0] bcast_S1024_S1024x1_0 g)) v)
    (broadcastInDim S1024x8 ![0, 1] bcast_S1024x1_S1024x8_0_1
      (Host.sqrt (broadcastInDim S1024x1 ![0] bcast_S1024_S1024x1_0
        (Host.reduceAdd (mulf v v) (constant S_ .f32 0x00000000#32) reducesTo_S1024x8_S1024_d1 h_S_))))

/-- The projection back. -/
def out (q : FVec F S4x8x4096 .f32) (v : FVec F S1024x8 .f32) (g b : FVec F S1024 .f32) : FVec F S4x1024x4096 .f32 :=
  addf (transpose S4x1024x4096 [0, 2, 1]
      (Host.dotGeneral dot_S4x8x4096_S1024x8_S4x4096x1024_1_1_02_0_n_n none q (weightOut v g)) transposes_S4x4096x1024_S4x1024x4096_0_2_1)
    (broadcastInDim S4x1024x4096 ![0, 1, 2] bcast_S1x1024x1_S4x1024x4096_0_1_2 (broadcastInDim S1x1024x1 ![1] bcast_S1024_S1x1024x1_1 b))

/-- The losses: zero. -/
def zeros : FVec F S4 .f32 := broadcastInDim S4 ![] bcast_S_S4 (constant S_ .f32 0x00000000#32)

/-! ## What each stretch leaves -/

section Stretches

variable (V : Valuation τ sig (Elt F))

theorem opsEnc_main_v13 : after opsEnc V (Proc.devRef .tc main_v13) = ze (V (Proc.devRef .tc main_arg0)) (V (Proc.devRef .tc main_arg1)) (V (Proc.devRef .tc main_arg2)) (V (Proc.devRef .tc main_arg3)) := by
  unfold opsEnc
  after_results_simp
  try simp -implicitDefEqProofs only [StableHlo.TRef.toBuf, StableHlo.TRef.ofBuf, cast_cast, cast_eq]
  unfold ze weightIn
  with_reducible rfl

theorem opsRows_main_v15 : after opsRows V (Proc.devRef .tc main_v15) = rows (V (Proc.devRef .tc main_v13)) := by
  unfold opsRows
  after_results_simp
  try simp -implicitDefEqProofs only [StableHlo.TRef.toBuf, StableHlo.TRef.ofBuf, cast_cast, cast_eq]
  unfold rows
  rfl

theorem opsNorm_main_v20 : after opsNorm V (Proc.devRef .tc main_v20) = normRows (V (Proc.devRef .tc main_v15)) := by
  unfold opsNorm
  after_results_simp
  try simp -implicitDefEqProofs only [StableHlo.TRef.toBuf, StableHlo.TRef.ofBuf, cast_cast, cast_eq]
  unfold normRows
  with_reducible rfl

theorem opsCode_main_v25 : after opsCode V (Proc.devRef .tc main_v25) = normCodes (V (Proc.devRef .tc main_arg7)) := by
  unfold opsCode
  after_results_simp
  try simp -implicitDefEqProofs only [StableHlo.TRef.toBuf, StableHlo.TRef.ofBuf, cast_cast, cast_eq]
  unfold normCodes
  with_reducible rfl

theorem opsScore_main_v41 : after opsScore V (Proc.devRef .tc main_v41) = scores (V (Proc.devRef .tc main_v20)) (V (Proc.devRef .tc main_v25)) := by
  unfold opsScore
  after_results_simp
  try simp -implicitDefEqProofs only [StableHlo.TRef.toBuf, StableHlo.TRef.ofBuf, cast_cast, cast_eq]
  unfold scores
  with_reducible rfl

theorem opsBest_main_v42 : after opsBest V (Proc.devRef .tc main_v42) = best (V (Proc.devRef .tc main_v41)) := by
  unfold opsBest
  after_results_simp
  try simp -implicitDefEqProofs only [StableHlo.TRef.toBuf, StableHlo.TRef.ofBuf, cast_cast, cast_eq]
  unfold best
  with_reducible rfl

theorem opsIdx_main_v43 : after opsIdx V (Proc.devRef .tc main_v43) = shapeCast S4x4096 (V (Proc.devRef .tc main_v42)) shapeCasts_S16384_S4x4096 := by
  unfold opsIdx
  after_results_simp
  rfl

theorem opsWrap_main_call3_v5 : after opsWrap V (Proc.devRef .tc main_call3_v5) = wrapped (V (Proc.devRef .tc main_v43)) := by
  unfold opsWrap
  after_results_simp
  try simp -implicitDefEqProofs only [StableHlo.TRef.toBuf, StableHlo.TRef.ofBuf, cast_cast, cast_eq]
  unfold wrapped
  with_reducible rfl

theorem opsIns_main_call3_v12 : after opsIns V (Proc.devRef .tc main_call3_v12) = inside (V (Proc.devRef .tc main_call3_v5)) := by
  unfold opsIns
  after_results_simp
  try simp -implicitDefEqProofs only [StableHlo.TRef.toBuf, StableHlo.TRef.ofBuf, cast_cast, cast_eq]
  unfold inside
  with_reducible rfl

theorem opsTake_main_v44 : after opsTake V (Proc.devRef .tc main_v44) = select (broadcastInDim S4x4096x8 ![0, 1] bcast_S4x4096_S4x4096x8_0_1 (V (Proc.devRef .tc main_call3_v12)))
      (Host.gather gather_S8192x8_S4x4096x1_S4x4096x8_2_0_n_n_0_2_18 (V (Proc.devRef .tc main_arg7)) (V (Proc.devRef .tc main_call3_v5)))
      (broadcastInDim S4x4096x8 ![] bcast_S_S4x4096x8 (constant S_ .f32 0x7FC00000#32)) := by
  unfold opsTake
  after_results_simp
  try simp -implicitDefEqProofs only [StableHlo.TRef.toBuf, StableHlo.TRef.ofBuf, cast_cast, cast_eq]

theorem opsZq_main_v47 : after opsZq V (Proc.devRef .tc main_v47) = addf (V (Proc.devRef .tc main_v13)) (subf (transpose S4x8x4096 [0, 2, 1] (V (Proc.devRef .tc main_v44)) transposes_S4x4096x8_S4x8x4096_0_2_1) (V (Proc.devRef .tc main_v13))) := by
  unfold opsZq
  after_results_simp
  try simp -implicitDefEqProofs only [StableHlo.TRef.toBuf, StableHlo.TRef.ofBuf, cast_cast, cast_eq]

theorem opsOut_main_v61 : after opsOut V (Proc.devRef .tc main_v61) = out (V (Proc.devRef .tc main_v47)) (V (Proc.devRef .tc main_arg4)) (V (Proc.devRef .tc main_arg5)) (V (Proc.devRef .tc main_arg6)) := by
  unfold opsOut
  after_results_simp
  try simp -implicitDefEqProofs only [StableHlo.TRef.toBuf, StableHlo.TRef.ofBuf, cast_cast, cast_eq]
  unfold out weightOut
  with_reducible rfl

theorem opsOut_main_v62 : after opsOut V (Proc.devRef .tc main_v62) = zeros := by
  unfold opsOut
  after_results_simp
  try simp -implicitDefEqProofs only [StableHlo.TRef.toBuf, StableHlo.TRef.ofBuf, cast_cast, cast_eq]
  unfold zeros
  with_reducible rfl

theorem opsOut_main_v63 : after opsOut V (Proc.devRef .tc main_v63) = zeros := by
  unfold opsOut
  after_results_simp
  try simp -implicitDefEqProofs only [StableHlo.TRef.toBuf, StableHlo.TRef.ofBuf, cast_cast, cast_eq]
  unfold zeros
  with_reducible rfl

end Stretches

/-! ## The line, stretch by stretch -/

/-- The arguments. -/
def argRefs : List (Ref sig .tc) := [main_arg0, main_arg1, main_arg2, main_arg3, main_arg4, main_arg5, main_arg6, main_arg7]

/-- The contents after the first 1 stretches. -/
def W1 (V : Valuation τ sig (Elt F)) : Valuation τ sig (Elt F) := after opsEnc V
theorem W1_keep (V : Valuation τ sig (Elt F)) (r : Ref sig .tc) (h : r ∉ opsEnc_W) : W1 V (Proc.devRef .tc r) = V (Proc.devRef .tc r) := opsEnc_keep _ r h
theorem W1_arg (V : Valuation τ sig (Elt F)) (r : Ref sig .tc) (h : r ∈ argRefs) : W1 V (Proc.devRef .tc r) = V (Proc.devRef .tc r) :=
  (W1_keep V r ((show ∀ a ∈ argRefs, a ∉ opsEnc_W by decide) r h))

/-- The contents after the first 2 stretches. -/
def W2 (V : Valuation τ sig (Elt F)) : Valuation τ sig (Elt F) := after opsRows (W1 V)
theorem W2_keep (V : Valuation τ sig (Elt F)) (r : Ref sig .tc) (h : r ∉ opsRows_W) : W2 V (Proc.devRef .tc r) = W1 V (Proc.devRef .tc r) := opsRows_keep _ r h
theorem W2_arg (V : Valuation τ sig (Elt F)) (r : Ref sig .tc) (h : r ∈ argRefs) : W2 V (Proc.devRef .tc r) = V (Proc.devRef .tc r) :=
  (W2_keep V r ((show ∀ a ∈ argRefs, a ∉ opsRows_W by decide) r h)).trans (W1_arg V r h)

/-- The contents after the first 3 stretches. -/
def W3 (V : Valuation τ sig (Elt F)) : Valuation τ sig (Elt F) := after opsNorm (W2 V)
theorem W3_keep (V : Valuation τ sig (Elt F)) (r : Ref sig .tc) (h : r ∉ opsNorm_W) : W3 V (Proc.devRef .tc r) = W2 V (Proc.devRef .tc r) := opsNorm_keep _ r h
theorem W3_arg (V : Valuation τ sig (Elt F)) (r : Ref sig .tc) (h : r ∈ argRefs) : W3 V (Proc.devRef .tc r) = V (Proc.devRef .tc r) :=
  (W3_keep V r ((show ∀ a ∈ argRefs, a ∉ opsNorm_W by decide) r h)).trans (W2_arg V r h)

/-- The contents after the first 4 stretches. -/
def W4 (V : Valuation τ sig (Elt F)) : Valuation τ sig (Elt F) := after opsCode (W3 V)
theorem W4_keep (V : Valuation τ sig (Elt F)) (r : Ref sig .tc) (h : r ∉ opsCode_W) : W4 V (Proc.devRef .tc r) = W3 V (Proc.devRef .tc r) := opsCode_keep _ r h
theorem W4_arg (V : Valuation τ sig (Elt F)) (r : Ref sig .tc) (h : r ∈ argRefs) : W4 V (Proc.devRef .tc r) = V (Proc.devRef .tc r) :=
  (W4_keep V r ((show ∀ a ∈ argRefs, a ∉ opsCode_W by decide) r h)).trans (W3_arg V r h)

/-- The contents after the first 5 stretches. -/
def W5 (V : Valuation τ sig (Elt F)) : Valuation τ sig (Elt F) := after opsScore (W4 V)
theorem W5_keep (V : Valuation τ sig (Elt F)) (r : Ref sig .tc) (h : r ∉ opsScore_W) : W5 V (Proc.devRef .tc r) = W4 V (Proc.devRef .tc r) := opsScore_keep _ r h
theorem W5_arg (V : Valuation τ sig (Elt F)) (r : Ref sig .tc) (h : r ∈ argRefs) : W5 V (Proc.devRef .tc r) = V (Proc.devRef .tc r) :=
  (W5_keep V r ((show ∀ a ∈ argRefs, a ∉ opsScore_W by decide) r h)).trans (W4_arg V r h)

/-- The contents after the first 6 stretches. -/
def W6 (V : Valuation τ sig (Elt F)) : Valuation τ sig (Elt F) := after opsBest (W5 V)
theorem W6_keep (V : Valuation τ sig (Elt F)) (r : Ref sig .tc) (h : r ∉ opsBest_W) : W6 V (Proc.devRef .tc r) = W5 V (Proc.devRef .tc r) := opsBest_keep _ r h
theorem W6_arg (V : Valuation τ sig (Elt F)) (r : Ref sig .tc) (h : r ∈ argRefs) : W6 V (Proc.devRef .tc r) = V (Proc.devRef .tc r) :=
  (W6_keep V r ((show ∀ a ∈ argRefs, a ∉ opsBest_W by decide) r h)).trans (W5_arg V r h)

/-- The contents after the first 7 stretches. -/
def W7 (V : Valuation τ sig (Elt F)) : Valuation τ sig (Elt F) := after opsIdx (W6 V)
theorem W7_keep (V : Valuation τ sig (Elt F)) (r : Ref sig .tc) (h : r ∉ opsIdx_W) : W7 V (Proc.devRef .tc r) = W6 V (Proc.devRef .tc r) := opsIdx_keep _ r h
theorem W7_arg (V : Valuation τ sig (Elt F)) (r : Ref sig .tc) (h : r ∈ argRefs) : W7 V (Proc.devRef .tc r) = V (Proc.devRef .tc r) :=
  (W7_keep V r ((show ∀ a ∈ argRefs, a ∉ opsIdx_W by decide) r h)).trans (W6_arg V r h)

/-- The contents after the first 8 stretches. -/
def W8 (V : Valuation τ sig (Elt F)) : Valuation τ sig (Elt F) := after opsWrap (W7 V)
theorem W8_keep (V : Valuation τ sig (Elt F)) (r : Ref sig .tc) (h : r ∉ opsWrap_W) : W8 V (Proc.devRef .tc r) = W7 V (Proc.devRef .tc r) := opsWrap_keep _ r h
theorem W8_arg (V : Valuation τ sig (Elt F)) (r : Ref sig .tc) (h : r ∈ argRefs) : W8 V (Proc.devRef .tc r) = V (Proc.devRef .tc r) :=
  (W8_keep V r ((show ∀ a ∈ argRefs, a ∉ opsWrap_W by decide) r h)).trans (W7_arg V r h)

/-- The contents after the first 9 stretches. -/
def W9 (V : Valuation τ sig (Elt F)) : Valuation τ sig (Elt F) := after opsIns (W8 V)
theorem W9_keep (V : Valuation τ sig (Elt F)) (r : Ref sig .tc) (h : r ∉ opsIns_W) : W9 V (Proc.devRef .tc r) = W8 V (Proc.devRef .tc r) := opsIns_keep _ r h
theorem W9_arg (V : Valuation τ sig (Elt F)) (r : Ref sig .tc) (h : r ∈ argRefs) : W9 V (Proc.devRef .tc r) = V (Proc.devRef .tc r) :=
  (W9_keep V r ((show ∀ a ∈ argRefs, a ∉ opsIns_W by decide) r h)).trans (W8_arg V r h)

/-- The contents after the first 10 stretches. -/
def W10 (V : Valuation τ sig (Elt F)) : Valuation τ sig (Elt F) := after opsTake (W9 V)
theorem W10_keep (V : Valuation τ sig (Elt F)) (r : Ref sig .tc) (h : r ∉ opsTake_W) : W10 V (Proc.devRef .tc r) = W9 V (Proc.devRef .tc r) := opsTake_keep _ r h
theorem W10_arg (V : Valuation τ sig (Elt F)) (r : Ref sig .tc) (h : r ∈ argRefs) : W10 V (Proc.devRef .tc r) = V (Proc.devRef .tc r) :=
  (W10_keep V r ((show ∀ a ∈ argRefs, a ∉ opsTake_W by decide) r h)).trans (W9_arg V r h)

/-- The contents after the first 11 stretches. -/
def W11 (V : Valuation τ sig (Elt F)) : Valuation τ sig (Elt F) := after opsZq (W10 V)
theorem W11_keep (V : Valuation τ sig (Elt F)) (r : Ref sig .tc) (h : r ∉ opsZq_W) : W11 V (Proc.devRef .tc r) = W10 V (Proc.devRef .tc r) := opsZq_keep _ r h
theorem W11_arg (V : Valuation τ sig (Elt F)) (r : Ref sig .tc) (h : r ∈ argRefs) : W11 V (Proc.devRef .tc r) = V (Proc.devRef .tc r) :=
  (W11_keep V r ((show ∀ a ∈ argRefs, a ∉ opsZq_W by decide) r h)).trans (W10_arg V r h)

/-- The contents after the first 12 stretches. -/
def W12 (V : Valuation τ sig (Elt F)) : Valuation τ sig (Elt F) := after opsOut (W11 V)
theorem W12_keep (V : Valuation τ sig (Elt F)) (r : Ref sig .tc) (h : r ∉ opsOut_W) : W12 V (Proc.devRef .tc r) = W11 V (Proc.devRef .tc r) := opsOut_keep _ r h
theorem W12_arg (V : Valuation τ sig (Elt F)) (r : Ref sig .tc) (h : r ∈ argRefs) : W12 V (Proc.devRef .tc r) = V (Proc.devRef .tc r) :=
  (W12_keep V r ((show ∀ a ∈ argRefs, a ∉ opsOut_W by decide) r h)).trans (W11_arg V r h)

section Values

variable (V : Valuation τ sig (Elt F))

theorem ops_eq : after ops V = W12 V := by
  rw [ops, after_two, after_two, after_two, after_two, after_two, after_two, after_two, after_two, after_two, after_two, after_two]
  rfl

theorem W1_v13 : W1 V (Proc.devRef .tc main_v13) = (ze (V (Proc.devRef .tc main_arg0)) (V (Proc.devRef .tc main_arg1)) (V (Proc.devRef .tc main_arg2)) (V (Proc.devRef .tc main_arg3))) := opsEnc_main_v13 V
theorem W2_v15 : W2 V (Proc.devRef .tc main_v15) = rows (ze (V (Proc.devRef .tc main_arg0)) (V (Proc.devRef .tc main_arg1)) (V (Proc.devRef .tc main_arg2)) (V (Proc.devRef .tc main_arg3))) := (opsRows_main_v15 _).trans (by rw [W1_v13])
theorem W3_v20 : W3 V (Proc.devRef .tc main_v20) = normRows (rows (ze (V (Proc.devRef .tc main_arg0)) (V (Proc.devRef .tc main_arg1)) (V (Proc.devRef .tc main_arg2)) (V (Proc.devRef .tc main_arg3)))) := (opsNorm_main_v20 _).trans (by rw [W2_v15])
theorem W4_v20 : W4 V (Proc.devRef .tc main_v20) = normRows (rows (ze (V (Proc.devRef .tc main_arg0)) (V (Proc.devRef .tc main_arg1)) (V (Proc.devRef .tc main_arg2)) (V (Proc.devRef .tc main_arg3)))) := (W4_keep V _ (by decide)).trans (W3_v20 V)
theorem W4_v25 : W4 V (Proc.devRef .tc main_v25) = normCodes (V (Proc.devRef .tc main_arg7)) := (opsCode_main_v25 _).trans (by rw [W3_arg V _ (by decide)])
theorem W5_v41 : W5 V (Proc.devRef .tc main_v41) = scores (normRows (rows (ze (V (Proc.devRef .tc main_arg0)) (V (Proc.devRef .tc main_arg1)) (V (Proc.devRef .tc main_arg2)) (V (Proc.devRef .tc main_arg3))))) (normCodes (V (Proc.devRef .tc main_arg7))) :=
  (opsScore_main_v41 _).trans (by rw [W4_v20, W4_v25])
theorem W6_v42 : W6 V (Proc.devRef .tc main_v42) = best (scores (normRows (rows (ze (V (Proc.devRef .tc main_arg0)) (V (Proc.devRef .tc main_arg1)) (V (Proc.devRef .tc main_arg2)) (V (Proc.devRef .tc main_arg3))))) (normCodes (V (Proc.devRef .tc main_arg7)))) :=
  (opsBest_main_v42 _).trans (by rw [W5_v41])
theorem W7_v43 : W7 V (Proc.devRef .tc main_v43) = indices (ze (V (Proc.devRef .tc main_arg0)) (V (Proc.devRef .tc main_arg1)) (V (Proc.devRef .tc main_arg2)) (V (Proc.devRef .tc main_arg3))) (V (Proc.devRef .tc main_arg7)) :=
  (opsIdx_main_v43 _).trans (by rw [W6_v42, indices])
theorem W8_v5 : W8 V (Proc.devRef .tc main_call3_v5) = wrapped (indices (ze (V (Proc.devRef .tc main_arg0)) (V (Proc.devRef .tc main_arg1)) (V (Proc.devRef .tc main_arg2)) (V (Proc.devRef .tc main_arg3))) (V (Proc.devRef .tc main_arg7))) :=
  (opsWrap_main_call3_v5 _).trans (by rw [W7_v43])
theorem W9_v5 : W9 V (Proc.devRef .tc main_call3_v5) = wrapped (indices (ze (V (Proc.devRef .tc main_arg0)) (V (Proc.devRef .tc main_arg1)) (V (Proc.devRef .tc main_arg2)) (V (Proc.devRef .tc main_arg3))) (V (Proc.devRef .tc main_arg7))) := (W9_keep V _ (by decide)).trans (W8_v5 V)
theorem W9_v12 : W9 V (Proc.devRef .tc main_call3_v12) = inside (wrapped (indices (ze (V (Proc.devRef .tc main_arg0)) (V (Proc.devRef .tc main_arg1)) (V (Proc.devRef .tc main_arg2)) (V (Proc.devRef .tc main_arg3))) (V (Proc.devRef .tc main_arg7)))) :=
  (opsIns_main_call3_v12 _).trans (by rw [W8_v5])
theorem W10_v44 : W10 V (Proc.devRef .tc main_v44) = taken (V (Proc.devRef .tc main_arg7)) (indices (ze (V (Proc.devRef .tc main_arg0)) (V (Proc.devRef .tc main_arg1)) (V (Proc.devRef .tc main_arg2)) (V (Proc.devRef .tc main_arg3))) (V (Proc.devRef .tc main_arg7))) :=
  (opsTake_main_v44 _).trans (by rw [W9_v5, W9_v12, W9_arg V main_arg7 (by decide), taken])
theorem W10_v13 : W10 V (Proc.devRef .tc main_v13) = (ze (V (Proc.devRef .tc main_arg0)) (V (Proc.devRef .tc main_arg1)) (V (Proc.devRef .tc main_arg2)) (V (Proc.devRef .tc main_arg3))) :=
  (W10_keep V _ (by decide)).trans <| (W9_keep V _ (by decide)).trans <| (W8_keep V _ (by decide)).trans <| (W7_keep V _ (by decide)).trans <| (W6_keep V _ (by decide)).trans <|
    (W5_keep V _ (by decide)).trans <| (W4_keep V _ (by decide)).trans <| (W3_keep V _ (by decide)).trans <| (W2_keep V _ (by decide)).trans (W1_v13 V)
theorem W11_v47 : W11 V (Proc.devRef .tc main_v47) = zq (ze (V (Proc.devRef .tc main_arg0)) (V (Proc.devRef .tc main_arg1)) (V (Proc.devRef .tc main_arg2)) (V (Proc.devRef .tc main_arg3))) (V (Proc.devRef .tc main_arg7)) (indices (ze (V (Proc.devRef .tc main_arg0)) (V (Proc.devRef .tc main_arg1)) (V (Proc.devRef .tc main_arg2)) (V (Proc.devRef .tc main_arg3))) (V (Proc.devRef .tc main_arg7))) :=
  (opsZq_main_v47 _).trans (by rw [W10_v44, W10_v13, zq])
theorem W12_v61 : W12 V (Proc.devRef .tc main_v61) = out (zq (ze (V (Proc.devRef .tc main_arg0)) (V (Proc.devRef .tc main_arg1)) (V (Proc.devRef .tc main_arg2)) (V (Proc.devRef .tc main_arg3))) (V (Proc.devRef .tc main_arg7)) (indices (ze (V (Proc.devRef .tc main_arg0)) (V (Proc.devRef .tc main_arg1)) (V (Proc.devRef .tc main_arg2)) (V (Proc.devRef .tc main_arg3))) (V (Proc.devRef .tc main_arg7)))) (V (Proc.devRef .tc main_arg4)) (V (Proc.devRef .tc main_arg5)) (V (Proc.devRef .tc main_arg6)) :=
  (opsOut_main_v61 _).trans (by
    rw [W11_v47, W11_arg V main_arg4 (by decide), W11_arg V main_arg5 (by decide), W11_arg V main_arg6 (by decide)])
theorem W12_v62 : W12 V (Proc.devRef .tc main_v62) = zeros := opsOut_main_v62 _
theorem W12_v63 : W12 V (Proc.devRef .tc main_v63) = zeros := opsOut_main_v63 _
theorem W12_v43 : W12 V (Proc.devRef .tc main_v43) = indices (ze (V (Proc.devRef .tc main_arg0)) (V (Proc.devRef .tc main_arg1)) (V (Proc.devRef .tc main_arg2)) (V (Proc.devRef .tc main_arg3))) (V (Proc.devRef .tc main_arg7)) :=
  (W12_keep V _ (by decide)).trans <| (W11_keep V _ (by decide)).trans <| (W10_keep V _ (by decide)).trans <| (W9_keep V _ (by decide)).trans <|
    (W8_keep V _ (by decide)).trans (W7_v43 V)
theorem W12_v13 : W12 V (Proc.devRef .tc main_v13) = (ze (V (Proc.devRef .tc main_arg0)) (V (Proc.devRef .tc main_arg1)) (V (Proc.devRef .tc main_arg2)) (V (Proc.devRef .tc main_arg3))) :=
  (W12_keep V _ (by decide)).trans <| (W11_keep V _ (by decide)).trans (W10_v13 V)

end Values

/-- The reference's run: every argument as it was, and the five results as functions of the arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_v61) = out (zq (ze (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg7)) (indices (ze (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg7)))) (m ((c.tc : Thread nD τ).loc main_arg4)) (m ((c.tc : Thread nD τ).loc main_arg5)) (m ((c.tc : Thread nD τ).loc main_arg6)) ∧
      r.2.mem ((c.tc : Thread nD τ).loc main_v62) = zeros ∧
      r.2.mem ((c.tc : Thread nD τ).loc main_v63) = zeros ∧
      r.2.mem ((c.tc : Thread nD τ).loc main_v43) = indices (ze (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg7)) ∧
      r.2.mem ((c.tc : Thread nD τ).loc main_v13) = ze (m ((c.tc : Thread nD τ).loc main_arg0)) (m ((c.tc : Thread nD τ).loc main_arg1)) (m ((c.tc : Thread nD τ).loc main_arg2)) (m ((c.tc : Thread nD τ).loc main_arg3)) := by
  refine θ_run_mono (run_after m ρ) fun r h c => ?_
  have e : ∀ b : Ref sig .tc, r.2.mem ((c.tc : Thread nD τ).loc b) = W12 (launchContents m c) (Proc.devRef .tc b) := fun b => by
    rw [h c b, ops_eq]
  exact ⟨(e _).trans (W12_arg _ _ (by decide)), (e _).trans (W12_arg _ _ (by decide)), (e _).trans (W12_arg _ _ (by decide)), (e _).trans (W12_arg _ _ (by decide)), (e _).trans (W12_arg _ _ (by decide)), (e _).trans (W12_arg _ _ (by decide)), (e _).trans (W12_arg _ _ (by decide)), (e _).trans (W12_arg _ _ (by decide)),
    (e _).trans (W12_v61 _), (e _).trans (W12_v62 _), (e _).trans (W12_v63 _), (e _).trans (W12_v43 _), (e _).trans (W12_v13 _)⟩

end Cert.Proof.Ref

end
-- ==== Proof.Frames.lean ====
/-
  The frames: each program ends with its arguments as they were and every counter at zero.
-/
module

public import proofs.«01_k».proof.Defs
public import proofs.«01_k».proof.Proof.Gen.Kernel.Frame
public import proofs.«01_k».proof.Proof.Gen.KernelIdeal.Frame
public import proofs.«01_k».proof.Proof.RefRun

@[expose] public section

noncomputable section

namespace Cert.Proof

open Idealize.ShloMosaic Idealize.SL.Sem

theorem kernel_frame : Cert.quiescent_Kernel := fun m g _ => Cert.Kernel.Gen.frame m g

theorem ideal_frame : Cert.quiescent_KernelIdeal := fun m g _ => Cert.KernelIdeal.Gen.frame m g

theorem reference_frame : Cert.quiescent_ReferenceIdeal := fun m g _ =>
  θ_run_mono (Ref.run m g) fun r h => ⟨fun c => by
    obtain ⟨h0, h1, h2, h3, h4, h5, h6, h7, -⟩ := h c
    exact ⟨h0, h1, h2, h3, h4, h5, h6, h7⟩, sem_eq_zero_of_no_sems (by decide) r.2⟩

end Cert.Proof

end
-- ==== Proof.KRun.lean ====
/-
  The kernel's run: every buffer of the program that outlives its regions ends at the contents `W5` that the launch, the
  host operations and the two regions' write-backs leave, and every semaphore counter at zero.
-/
module

public import proofs.«01_k».proof.Proof.Gen.KernelIdeal.Frame

@[expose] public section

noncomputable section

namespace Cert.Proof.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxRecDepth 16384
set_option backward.isDefEq.respectTransparency.types false in
/-- The run, read at every buffer that outlives the regions. -/
theorem run_fold : θ_run defs (onTc (τ := τ) (main (F := F))) ⟨m, fun _ => 0, ρ⟩ (fun r =>
      (∀ (c : Dev nD), ∀ b ∈ Pipeline.ucRefs τ sig, r.2.mem ((c : Thread nD τ).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Cert.Proof.KRun

end
-- ==== Proof.Reals.lean ====
/-
  Extended reals that are real numbers, and the scalar operations on them: sums, products and quotients of real numbers are
  real, `x · (1 / √x)` with zero sent to zero is the square root, and the two ways of writing the negated squared distance agree.
-/
module

public import Idealize.ShloMosaic.PureOps.Ideal.Laws
public import Idealize.ShloMosaic.Lib.ValueIdx

@[expose] public section

noncomputable section

namespace Cert.Proof

open Idealize.ShloMosaic

/-- `x` is a real number. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem IsReal.zero : IsReal 0 := ⟨0, EReal.coe_zero.symm⟩

theorem IsReal.sum {ι : Type*} {S : Finset ι} {f : ι → EReal} (h : ∀ i, IsReal (f i)) : IsReal (∑ i ∈ S, f i) := by
  classical
  induction S using Finset.induction_on with
  | empty => exact .zero
  | insert a S ha ih => rw [Finset.sum_insert ha]; exact (h a).add ih

theorem isReal_iff (x : EReal) : IsReal x ↔ x ≠ ⊥ ∧ x ≠ ⊤ := by
  induction x with
  | bot => simp [IsReal]
  | top => simp [IsReal]
  | coe r => simp [IsReal]

/-- An extended real whose absolute value is below `⊤` is real. -/
theorem IsReal.of_abs_lt {x : EReal} (h : max x (-x) < ⊤) : IsReal x := by
  rw [isReal_iff]
  constructor
  · rintro rfl; simp at h
  · rintro rfl; simp at h

theorem IsReal.div {x y : EReal} (hx : IsReal x) (hy : IsReal y) (h : y ≠ 0) : IsReal (Ideal.div x y) := by
  obtain ⟨a, rfl⟩ := hx; obtain ⟨b, rfl⟩ := hy
  unfold Ideal.div
  rw [if_neg h, ← EReal.coe_inv]
  exact ⟨a * b⁻¹, (EReal.coe_mul _ _).symm⟩

/-- The square root and its reciprocal at a real number. -/
theorem sqrt_coe {a : ℝ} (h : ¬ a < 0) : Ideal.sqrt (a : EReal) = ((Real.sqrt a : ℝ) : EReal) :=
  (show Ideal.sqrt (a : EReal) = if a < 0 then ⊥ else ((Real.sqrt a : ℝ) : EReal) from rfl).trans (if_neg h)
theorem rsqrt_coe {a : ℝ} (h : ¬ a < 0) (hz : ¬ a = 0) : Ideal.rsqrt (a : EReal) = (((Real.sqrt a)⁻¹ : ℝ) : EReal) :=
  (show Ideal.rsqrt (a : EReal) = if a < 0 then ⊥ else if a = 0 then ⊤ else (((Real.sqrt a)⁻¹ : ℝ) : EReal) from rfl).trans
    ((if_neg h).trans (if_neg hz))

theorem IsReal.sqrt {x : EReal} (hx : IsReal x) (h : 0 ≤ x) : IsReal (Ideal.sqrt x) := by
  obtain ⟨a, rfl⟩ := hx
  have : ¬ a < 0 := not_lt.mpr (EReal.coe_nonneg.mp h)
  exact ⟨Real.sqrt a, sqrt_coe this⟩

/-- A real number's square root is zero only where it is zero or less. -/
theorem sqrt_ne_zero {x : EReal} (hx : IsReal x) (h : 0 < x) : Ideal.sqrt x ≠ 0 := by
  obtain ⟨a, rfl⟩ := hx
  have ha : 0 < a := EReal.coe_pos.mp h
  have : ¬ a < 0 := not_lt.mpr ha.le
  have e : Ideal.sqrt (a : EReal) = (Real.sqrt a : ℝ) := sqrt_coe this
  rw [e, ← EReal.coe_zero]
  exact fun h' => (Real.sqrt_pos.mpr ha).ne' (EReal.coe_injective h')

/-- The square root as the kernels take it: zero at zero, else `x · (1 / √x)`. -/
def root (x : EReal) : EReal := Scalar.select (Ideal.cmp .oeq x 0) 0 (x * Ideal.rsqrt x)

theorem root_eq {x : EReal} (hx : IsReal x) (h : 0 ≤ x) : root x = Ideal.sqrt x := by
  obtain ⟨a, rfl⟩ := hx
  have h0 : 0 ≤ a := EReal.coe_nonneg.mp h
  have hn : ¬ a < 0 := not_lt.mpr h0
  unfold root
  by_cases hz : a = 0
  · subst hz; rw [sqrt_coe hn]; simp [Scalar.select, Ideal.cmp]
  · have e : Ideal.cmp .oeq (a : EReal) 0 = 0#1 := by
      have : (a : EReal) ≠ 0 := fun h' => hz (EReal.coe_injective (h'.trans EReal.coe_zero.symm))
      simp [Ideal.cmp, this]
    rw [e]
    show (a : EReal) * Ideal.rsqrt a = Ideal.sqrt a
    have hr : Ideal.rsqrt (a : EReal) = (((Real.sqrt a)⁻¹ : ℝ) : EReal) := rsqrt_coe hn hz
    have hs : Ideal.sqrt (a : EReal) = ((Real.sqrt a : ℝ) : EReal) := sqrt_coe hn
    rw [hr, hs, ← EReal.coe_mul]
    congr 1
    have hp : 0 < Real.sqrt a := Real.sqrt_pos.mpr (lt_of_le_of_ne h0 (Ne.symm hz))
    field_simp
    exact (Real.sq_sqrt h0).symm

/-- The sum of the squares of a family. -/
def sqSum {n : ℕ} (x : Fin n → EReal) : EReal := ∑ k, x k * x k

theorem sqSum_real {n : ℕ} {x : Fin n → EReal} (h : ∀ k, IsReal (x k)) : IsReal (sqSum x) := .sum fun k => (h k).mul (h k)

theorem sqSum_nonneg {n : ℕ} (x : Fin n → EReal) (h : ∀ k, IsReal (x k)) : 0 ≤ sqSum x :=
  Finset.sum_nonneg fun k _ => by
    obtain ⟨a, e⟩ := h k
    rw [e, ← EReal.coe_mul]
    exact EReal.coe_nonneg.mpr (mul_self_nonneg a)

/-- The small constant that keeps a norm off zero. -/
def eps : EReal := Ideal.ofBits .f32 0x2B8CBCCC#32

theorem eps_eq : eps = ((9223372 * (2 ^ 63)⁻¹ : ℝ) : EReal) := by
  simp [eps, Ideal.ofBits, Ideal.ieee]
theorem eps_real : IsReal eps := ⟨_, eps_eq⟩
theorem eps_pos : 0 < eps := by
  rw [eps_eq]
  exact EReal.coe_pos.mpr (by positivity)

/-- The constant two. -/
def two : EReal := Ideal.ofBits .f32 0x40000000#32

theorem two_real : IsReal two := ⟨8388608 * (2 ^ 22)⁻¹, by simp [two, Ideal.ofBits, Ideal.ieee]⟩

/-- A family over its norm, the norm at least the small constant. -/
def unit {n : ℕ} (x : Fin n → EReal) (d : Fin n) : EReal := Ideal.div (x d) (max (Ideal.sqrt (sqSum x)) eps)

theorem unit_real {n : ℕ} {x : Fin n → EReal} (h : ∀ k, IsReal (x k)) (d : Fin n) : IsReal (unit x d) := by
  have hs := (sqSum_real h).sqrt (sqSum_nonneg x h)
  refine (h d).div ?_ (lt_of_lt_of_le eps_pos (le_max_right _ _)).ne'
  rcases max_choice (Ideal.sqrt (sqSum x)) eps with e | e <;> rw [e]
  · exact hs
  · exact eps_real

/-- A weight: gain times value over the norm of the row. -/
def weight {n : ℕ} (g : EReal) (v : Fin n → EReal) (k : Fin n) : EReal := Ideal.div (g * v k) (Ideal.sqrt (sqSum v))

theorem weight_real {n : ℕ} {g : EReal} {v : Fin n → EReal} (hg : IsReal g) (h : ∀ k, IsReal (v k)) (hp : 0 < sqSum v) (k : Fin n) :
    IsReal (weight g v k) :=
  (hg.mul (h k)).div ((sqSum_real h).sqrt (sqSum_nonneg v h)) (sqrt_ne_zero (sqSum_real h) hp)

/-- The negated squared distance of two families over their norms, as the reference writes it. -/
def score {n : ℕ} (x c : Fin n → EReal) : EReal :=
  -((sqSum (unit x) - ∑ d, two * unit x d * unit c d) + sqSum (unit c))

/-- It as the kernel writes it. -/
theorem score_eq {n : ℕ} {x c : Fin n → EReal} (hx : ∀ k, IsReal (x k)) (hc : ∀ k, IsReal (c k)) :
    ((∑ d, unit x d * two * unit c d) - sqSum (unit x)) - sqSum (unit c) = score x c := by
  unfold score
  have e : (∑ d, unit x d * two * unit c d) = ∑ d, two * unit x d * unit c d :=
    Finset.sum_congr rfl fun d _ => by rw [mul_comm (unit x d) two]
  rw [e]
  obtain ⟨a, ha⟩ := sqSum_real (unit_real hx)
  obtain ⟨b, hb⟩ := sqSum_real (unit_real hc)
  obtain ⟨p, hp⟩ : IsReal (∑ d, two * unit x d * unit c d) := .sum fun d => (two_real.mul (unit_real hx d)).mul (unit_real hc d)
  rw [ha, hb, hp]
  rw [← EReal.coe_sub, ← EReal.coe_sub, ← EReal.coe_sub, ← EReal.coe_add, ← EReal.coe_neg]
  congr 1
  ring

/-- What is added to `x` to reach a real `y`, added to a real `x`. -/
theorem add_sub_real {x y : EReal} (hx : IsReal x) : x + (y - x) = y := by
  obtain ⟨a, rfl⟩ := hx
  induction y with
  | bot => simp
  | top => simp
  | coe b => rw [← EReal.coe_sub, ← EReal.coe_add]; congr 1; ring

end Cert.Proof

end
-- ==== Proof.Reads.lean ====
/-
  The layout operations of the two programs read at an index, for arrays of any extents: columns and rows repeated, a matrix
  transposed, the sum of a row.
-/
module

public import proofs.«01_k».proof.Proof.Reals
public import Idealize.ShloMosaic.Lib.IdealHost
public import Idealize.ShloMosaic.Lib.Pipeline.Value

@[expose] public section

noncomputable section

namespace Cert.Proof

open Idealize.ShloMosaic Idealize.ShloMosaic.ValueIdx

variable {α : Type} {m n p : ℕ}

/-- A vector as a column. -/
theorem asColumn_apply (h : (⟨1, ![m]⟩ : Shape).BroadcastsInDim ⟨2, ![m, 1]⟩ ![0]) (x : (⟨1, ![m]⟩ : Shape).Idx → α)
    (o : Fin m) (u : Fin 1) : broadcastInDim ⟨2, ![m, 1]⟩ ![0] h x (ix2 o u) = x (ix1 o) :=
  broadcastInDim_apply _ h x _ (ix1 o) fun a => match a with
    | ⟨0, _⟩ => by show o.val = if m = 1 then 0 else o.val; have := o.isLt; split <;> omega

/-- A column repeated along the second axis. -/
theorem columns_apply (h : (⟨2, ![m, 1]⟩ : Shape).BroadcastsInDim ⟨2, ![m, n]⟩ ![0, 1]) (x : (⟨2, ![m, 1]⟩ : Shape).Idx → α)
    (o : Fin m) (k : Fin n) : broadcastInDim ⟨2, ![m, n]⟩ ![0, 1] h x (ix2 o k) = x (ix2 o 0) :=
  broadcastInDim_apply _ h x _ (ix2 o 0) fun a => match a with
    | ⟨0, _⟩ => by show o.val = if m = 1 then 0 else o.val; have := o.isLt; split <;> omega
    | ⟨1, _⟩ => by show 0 = if 1 = 1 then 0 else k.val; rfl

/-- A row repeated along the first axis. -/
theorem repeatRow_apply (h : (⟨2, ![1, n]⟩ : Shape).BroadcastsInDim ⟨2, ![m, n]⟩ ![0, 1]) (x : (⟨2, ![1, n]⟩ : Shape).Idx → α)
    (o : Fin m) (k : Fin n) : broadcastInDim ⟨2, ![m, n]⟩ ![0, 1] h x (ix2 o k) = x (ix2 0 k) :=
  broadcastInDim_apply _ h x _ (ix2 0 k) fun a => match a with
    | ⟨0, _⟩ => by show 0 = if 1 = 1 then 0 else o.val; rfl
    | ⟨1, _⟩ => by show k.val = if n = 1 then 0 else k.val; have := k.isLt; split <;> omega

/-- A vector along the middle of three axes. -/
theorem middle_apply (h₁ : (⟨1, ![n]⟩ : Shape).BroadcastsInDim ⟨3, ![1, n, 1]⟩ ![1])
    (h₂ : (⟨3, ![1, n, 1]⟩ : Shape).BroadcastsInDim ⟨3, ![m, n, p]⟩ ![0, 1, 2]) (x : (⟨1, ![n]⟩ : Shape).Idx → α)
    (b : Fin m) (o : Fin n) (t : Fin p) :
    broadcastInDim ⟨3, ![m, n, p]⟩ ![0, 1, 2] h₂ (broadcastInDim ⟨3, ![1, n, 1]⟩ ![1] h₁ x) (ix3 b o t) = x (ix1 o) :=
  (broadcastInDim_apply _ h₂ _ _ (ix3 0 o 0) fun a => match a with
    | ⟨0, _⟩ => by show 0 = if 1 = 1 then 0 else b.val; rfl
    | ⟨1, _⟩ => by show o.val = if n = 1 then 0 else o.val; have := o.isLt; split <;> omega
    | ⟨2, _⟩ => by show 0 = if 1 = 1 then 0 else t.val; rfl).trans
  (broadcastInDim_apply _ h₁ x _ (ix1 o) fun a => match a with
    | ⟨0, _⟩ => by show o.val = if n = 1 then 0 else o.val; have := o.isLt; split <;> omega)

/-- The last two of three axes swapped. -/
theorem swapLast_apply (h : (⟨3, ![m, n, p]⟩ : Shape).Transposes [0, 2, 1] ⟨3, ![m, p, n]⟩) (x : (⟨3, ![m, n, p]⟩ : Shape).Idx → α)
    (b : Fin m) (t : Fin p) (o : Fin n) : transpose ⟨3, ![m, p, n]⟩ [0, 2, 1] x h (ix3 b t o) = x (ix3 b o t) :=
  transpose_apply _ x h _ (ix3 b o t) fun a => match a with
    | ⟨0, _⟩ => rfl
    | ⟨1, _⟩ => rfl
    | ⟨2, _⟩ => rfl

/-- The two axes of a matrix swapped. -/
theorem swap_apply (h : (⟨2, ![m, n]⟩ : Shape).Transposes [1, 0] ⟨2, ![n, m]⟩) (x : (⟨2, ![m, n]⟩ : Shape).Idx → α)
    (k : Fin n) (o : Fin m) : transpose ⟨2, ![n, m]⟩ [1, 0] x h (ix2 k o) = x (ix2 o k) :=
  transpose_apply _ x h _ (ix2 o k) fun a => match a with
    | ⟨0, _⟩ => rfl
    | ⟨1, _⟩ => rfl

/-- The host's sum of a row, from zero. -/
theorem rowSum_apply {u : Shape} (h : (⟨2, ![m, n]⟩ : Shape).ReducesTo [1] ⟨1, ![m]⟩) (h' : (⟨2, ![m, n]⟩ : Shape).Reduces [1] ⟨1, ![m]⟩)
    (hu : 0 < u.numel) (x : FVec Ideal ⟨2, ![m, n]⟩ .f32) (o : Fin m) :
    Host.reduceAdd x (constant u .f32 0x00000000#32) h hu (ix1 o) = ∑ k : Fin n, x (ix2 o k) := by
  rw [hostReduceAdd_apply, Ideal.hostReduceAdd_single _ h']
  refine Eq.trans (congrArg (· + _) Ideal.ofBits_zero_f32) ((zero_add _).trans ?_)
  refine Finset.sum_congr rfl fun k _ => congrArg x (funext fun a => Fin.ext ?_)
  match a with
  | ⟨0, _⟩ => rfl
  | ⟨1, _⟩ => rfl

/-- The host's square root at an index. -/
theorem hostSqrt_apply {s : Shape} (x : FVec Ideal s .f32) (i : s.Idx) : Host.sqrt x i = Ideal.sqrt (x i) := rfl

/-- The host's negation at an index. -/
theorem hostNegf_apply {s : Shape} (x : FVec Ideal s .f32) (i : s.Idx) : Host.negf x i = -(x i) := rfl

end Cert.Proof

end
-- ==== Proof.Pre.lean ====
/-
  The precondition read back: where it holds, the entries of six of the arguments are real numbers, and each row of the
  projection in has a positive sum of squares.
-/
module

public import proofs.«01_k».proof.Proof.Gen.Pre_tame
public import proofs.«01_k».proof.Proof.Reads
public import Idealize.ShloMosaic.Lib.ReduceAll
public import Idealize.ShloMosaic.Lib.IdealHost

@[expose] public section

noncomputable section

namespace Cert.Proof.Pre

open Idealize.ShloMosaic Idealize.ShloMosaic.ValueIdx Cert.Pre_tame Cert.Pre_tame.Facts

instance : Subsingleton S_.Idx := ⟨fun _ _ => funext fun a => a.elim0⟩

/-- The word of the infinity is `⊤`. -/
theorem inf_word : Ideal.ofBits .f32 0x7F800000#32 = ⊤ := by simp [Ideal.ofBits, Ideal.ieee]

/-- An array all of whose absolute values are below infinity is real throughout. -/
theorem real_of_all {s : Shape} {axes : List (Fin s.rank)} (x : FVec Ideal s .f32) (hb : S_.BroadcastsInDim s ![])
    (hr : s.ReducesTo axes S_) (hu : 0 < S_.numel) (init : S_.Idx → BitVec 1)
    (e : Host.reduce IntOp.andi (cmpf .olt (Host.absf x) (broadcastInDim s ![] hb (constant S_ .f32 0x7F800000#32))) init hr hu ix0
      = 1#1) (i : s.Idx) : IsReal (x i) := by
  have h := Host.reduce_andi_all _ _ _ _ _ e i
  rw [cmpf_apply, broadcastInDim_scalar_apply] at h
  have h' : Ideal.cmp .olt (max (x i) (-(x i))) (Ideal.ofBits .f32 0x7F800000#32) = 1#1 := h
  rw [inf_word] at h'
  refine .of_abs_lt ?_
  by_contra hn
  simp [Ideal.cmp, hn] at h'

variable [Facts]

/-- What the precondition says of the arguments. -/
theorem of_fn (z : FVec Ideal S4x1024x4096 .f32) (v : FVec Ideal S8x1024 .f32) (g b : FVec Ideal S8 .f32) (v' : FVec Ideal S1024x8 .f32)
    (g' b' : FVec Ideal S1024 .f32) (cb : FVec Ideal S8192x8 .f32) (h : fn z v g b v' g' b' cb = fun _ => 1#1) :
    (∀ i, IsReal (z i)) ∧ (∀ i, IsReal (v i)) ∧ (∀ i, IsReal (g i)) ∧ (∀ i, IsReal (b i)) ∧ (∀ i, IsReal (v' i))
      ∧ (∀ i, IsReal (cb i)) ∧ ∀ o : Fin 8, 0 < sqSum fun k : Fin 1024 => v (ix2 o k) := by
  have e := congrFun h ix0
  unfold fn fn_part1 fn_part2 at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨real_of_all z _ _ _ _ e0, real_of_all v _ _ _ _ e1, real_of_all g _ _ _ _ e2, real_of_all b _ _ _ _ e3,
    real_of_all v' _ _ _ _ e4, real_of_all cb _ _ _ _ e5, fun o => ?_⟩
  have h := Host.reduce_andi_all _ _ _ _ _ e6 (ix1 o)
  rw [cmpf_apply, broadcastInDim_scalar_apply] at h
  beta_reduce at h
  rw [rowSum_apply _ (by decide)] at h
  have h' : Ideal.cmp .ogt (sqSum fun k : Fin 1024 => v (ix2 o k)) (Ideal.ofBits .f32 0x00000000#32) = 1#1 := h
  rw [Ideal.ofBits_zero_f32] at h'
  by_contra hn
  simp [Ideal.cmp, hn] at h'

end Cert.Proof.Pre

end
-- ==== Proof.Best.lean ====
/-
  The lowest index at which a finite family of extended reals is greatest: what it is, that there is at most one, and three
  folds that find it. One is a left fold of pairs that keeps the greater value and at equal values the smaller index; one
  takes the maximum of a window and then the smallest index that attains it; the third joins two such windows.
-/
module

public import Idealize.ShloMosaic.PureOps.Ideal.Laws
public import Idealize.ShloMosaic.Lib.ValueIdx
public import Idealize.ShloMosaic.PureOps.Reduce

@[expose] public section

noncomputable section

namespace Cert.Proof

open Idealize.ShloMosaic Idealize.ShloMosaic.ValueIdx

/-- `j` is the lowest index at which `s` is greatest. -/
def IsBest {n : ℕ} (s : Fin n → EReal) (j : Fin n) : Prop := ∀ i, s i ≤ s j ∧ (i < j → s i < s j)

theorem IsBest.unique {n : ℕ} {s : Fin n → EReal} {i j : Fin n} (hi : IsBest s i) (hj : IsBest s j) : i = j := by
  rcases lt_trichotomy i j with h | h | h
  · exact absurd ((hj i).2 h) (not_lt.mpr (hi j).1)
  · exact h
  · exact absurd ((hi j).2 h) (not_lt.mpr (hj i).1)

/-- A word below `2 ^ 31` reads as itself. -/
theorem word_toInt (k : ℕ) (h : k < 2 ^ 31) : (BitVec.ofNat 32 k).toInt = (k : ℤ) := by
  have e : (BitVec.ofNat 32 k).toNat = k := by rw [BitVec.toNat_ofNat]; omega
  rw [BitVec.toInt_eq_toNat_cond, e]
  split <;> omega

/-! ## The fold of pairs -/

/-- `p` beats `q` or ties with it: a greater value, or the same value at an index no greater. -/
def Beats (p q : EReal × BitVec 32) : Prop := q.1 < p.1 ∨ (q.1 = p.1 ∧ p.2.toInt ≤ q.2.toInt)

theorem Beats.refl (p : EReal × BitVec 32) : Beats p p := .inr ⟨rfl, le_rfl⟩

theorem Beats.trans {p q r : EReal × BitVec 32} (h : Beats p q) (k : Beats q r) : Beats p r := by
  rcases h with h | ⟨h, h'⟩ <;> rcases k with k | ⟨k, k'⟩
  · exact .inl (k.trans h)
  · exact .inl (k ▸ h)
  · exact .inl (h ▸ k)
  · exact .inr ⟨k.trans h, h'.trans k'⟩

/-- A step that returns one of its two pairs, the better one, folds to a pair of the list (or the first one) that beats all. -/
theorem foldl_beats (f : EReal × BitVec 32 → EReal × BitVec 32 → EReal × BitVec 32)
    (hf : ∀ a b, (f a b = a ∧ Beats a b) ∨ (f a b = b ∧ Beats b a)) (l : List (EReal × BitVec 32)) (p : EReal × BitVec 32) :
    (l.foldl f p = p ∨ l.foldl f p ∈ l) ∧ Beats (l.foldl f p) p ∧ ∀ q ∈ l, Beats (l.foldl f p) q := by
  induction l generalizing p with
  | nil => exact ⟨.inl rfl, .refl p, fun q h => absurd h (by simp)⟩
  | cons b l ih =>
    obtain ⟨hm, hp, hl⟩ := ih (f p b)
    rw [List.foldl_cons]
    have hb : Beats (f p b) p ∧ Beats (f p b) b := by
      rcases hf p b with ⟨e, h⟩ | ⟨e, h⟩ <;> rw [e]
      · exact ⟨.refl _, h⟩
      · exact ⟨h, .refl _⟩
    refine ⟨?_, hp.trans hb.1, fun q hq => ?_⟩
    · rcases hm with e | hm
      · rw [e]
        rcases hf p b with ⟨e', -⟩ | ⟨e', -⟩ <;> rw [e']
        · exact .inl rfl
        · exact .inr (by simp)
      · exact .inr (List.mem_cons_of_mem _ hm)
    · rcases List.mem_cons.mp hq with rfl | hq
      · exact hp.trans hb.2
      · exact hl q hq

/-- So over the pairs `(s i, i)`, from `(⊥, 0)`, it folds to the index sought. -/
theorem foldl_best {n : ℕ} (hn : n < 2 ^ 31) (h0 : 0 < n) (s : Fin n → EReal)
    (f : EReal × BitVec 32 → EReal × BitVec 32 → EReal × BitVec 32)
    (hf : ∀ a b, (f a b = a ∧ Beats a b) ∨ (f a b = b ∧ Beats b a)) (l : List (EReal × BitVec 32))
    (hl : ∀ q, q ∈ l ↔ ∃ i : Fin n, q = (s i, BitVec.ofNat 32 i.val)) :
    ∃ j, IsBest s j ∧ (l.foldl f (⊥, 0#32)).2 = BitVec.ofNat 32 j.val := by
  obtain ⟨hm, -, hb⟩ := foldl_beats f hf l (⊥, 0#32)
  have hall : ∀ i : Fin n, Beats (l.foldl f (⊥, 0#32)) (s i, BitVec.ofNat 32 i.val) := fun i => hb _ ((hl _).mpr ⟨i, rfl⟩)
  have hw : ∀ i : Fin n, (BitVec.ofNat 32 i.val).toInt = (i.val : ℤ) := fun i => word_toInt _ (by have := i.isLt; omega)
  have key : ∀ j : Fin n, l.foldl f (⊥, 0#32) = (s j, BitVec.ofNat 32 j.val) → IsBest s j := fun j e i => by
    have := hall i
    rw [e] at this
    rcases this with h | ⟨h, h'⟩
    · exact ⟨h.le, fun _ => h⟩
    · have h1 : s i = s j := h
      have h2 : (BitVec.ofNat 32 j.val).toInt ≤ (BitVec.ofNat 32 i.val).toInt := h'
      rw [hw, hw] at h2
      exact ⟨h1.le, fun hij => absurd hij (by rw [Fin.lt_def]; omega)⟩
  rcases hm with e | hm
  · refine ⟨⟨0, h0⟩, key _ ?_, by rw [e]⟩
    have := hall ⟨0, h0⟩
    rw [e] at this ⊢
    rcases this with h | ⟨h, -⟩
    · exact absurd h not_lt_bot
    · exact Prod.ext (Eq.symm h) rfl
  · obtain ⟨j, e⟩ := (hl _).mp hm
    exact ⟨j, key j e, by rw [e]⟩

/-- The host's two-operand reduce along the rows of a matrix, by such a step, over the entries and their column numbers, from
    `⊥` and zero: the index sought of each row. -/
theorem argRow_best {m n : ℕ} {u : Shape} (hn : n < 2 ^ 31) (h0 : 0 < n) (s : FVec Ideal ⟨2, ![m, n]⟩ .f32)
    (f : EReal × BitVec 32 → EReal × BitVec 32 → EReal × BitVec 32)
    (hf : ∀ a b, (f a b = a ∧ Beats a b) ∨ (f a b = b ∧ Beats b a))
    (h : (⟨2, ![m, n]⟩ : Shape).ReducesTo [1] ⟨1, ![m]⟩) (h' : (⟨2, ![m, n]⟩ : Shape).Reduces [1] ⟨1, ![m]⟩) (hu : 0 < u.numel)
    (r : Fin m) :
    ∃ j, IsBest (fun k : Fin n => s (ix2 r k)) j
      ∧ (Host.argReduce f s (iotaInDim ⟨2, ![m, n]⟩ 32 1) (constant u .f32 0xFF800000#32) (constantI u 32 0#32) h hu (ix1 r)).2
          = BitVec.ofNat 32 j.val := by
  rw [Ideal.argReduce_eq_reduce2, Host.reduce2_eq_foldl_fiber]
  have hw : (constant u .f32 0xFF800000#32 : FVec Ideal u .f32) (Shape.Idx.first hu) = (⊥ : EReal) := by
    show Ideal.ofBits .f32 0xFF800000#32 = ⊥
    simp [Ideal.ofBits, Ideal.ieee]
  rw [hw]
  have hl : ∀ k : Fin n, h'.lift (ix1 r) k = ix2 r k := fun k => funext fun a => Fin.ext (match a with | ⟨0, _⟩ => rfl | ⟨1, _⟩ => rfl)
  refine foldl_best hn h0 _ _ hf _ fun q => ?_
  unfold Host.argReduceFiber
  rw [Shape.ReducesTo.drop_eq_drop _ h']
  simp only [List.mem_map, List.mem_filter, List.mem_finRange, true_and, decide_eq_true_eq]
  constructor
  · rintro ⟨i, hi, rfl⟩
    generalize (⟨2, ![m, n]⟩ : Shape).rowMajor.symm i = y at hi ⊢
    have e : y = ix2 r (y 1) := (h'.lift_drop y).symm.trans ((congrArg (fun z => h'.lift z (y 1)) hi).trans (hl (y 1)))
    exact ⟨y 1, Prod.ext (congrArg s e) rfl⟩
  · rintro ⟨k, rfl⟩
    refine ⟨(⟨2, ![m, n]⟩ : Shape).rowMajor (ix2 r k), ?_, ?_⟩
    · rw [Equiv.symm_apply_apply]; exact (congrArg h'.drop (hl k)).symm.trans (h'.drop_lift _ _)
    · rw [Equiv.symm_apply_apply]; rfl

/-! ## The window -/

/-- The smaller of two words is one of them and at most both. -/
theorem minsi_cases (a b : BitVec 32) :
    (IntOp.minsi a b = a ∨ IntOp.minsi a b = b) ∧ (IntOp.minsi a b).toInt ≤ a.toInt ∧ (IntOp.minsi a b).toInt ≤ b.toInt := by
  unfold IntOp.minsi
  by_cases h : a.slt b = true
  · have h' : a.toInt < b.toInt := by simpa [BitVec.slt] using h
    simp [h]; omega
  · have h' : ¬ a.toInt < b.toInt := by simpa [BitVec.slt] using h
    simp [h]; omega

/-- The fold of it: the first word or one of the family, and at most all. -/
theorem fold_minsi {n : ℕ} (g : Fin n → BitVec 32) (a : BitVec 32) (S : Finset (Fin n)) :
    (S.fold IntOp.minsi a g = a ∨ ∃ i ∈ S, S.fold IntOp.minsi a g = g i) ∧ ∀ i ∈ S, (S.fold IntOp.minsi a g).toInt ≤ (g i).toInt := by
  classical
  induction S using Finset.induction_on with
  | empty => exact ⟨.inl rfl, fun i h => absurd h (by simp)⟩
  | insert b S hb ih =>
    rw [Finset.fold_insert hb]
    obtain ⟨hm, hl⟩ := ih
    obtain ⟨hc, h1, h2⟩ := minsi_cases (g b) (S.fold IntOp.minsi a g)
    refine ⟨?_, fun i hi => ?_⟩
    · rcases hc with e | e <;> rw [e]
      · exact .inr ⟨b, Finset.mem_insert_self _ _, rfl⟩
      · rcases hm with e' | ⟨i, hi, e'⟩
        · exact .inl e'
        · exact .inr ⟨i, Finset.mem_insert_of_mem hi, e'⟩
    · rcases Finset.mem_insert.mp hi with rfl | hi
      · exact h1
      · exact h2.trans (hl i hi)

/-- The maximum of a window is attained, and is at least all. -/
theorem fold_max_attained {n : ℕ} (h0 : 0 < n) (f : Fin n → EReal) :
    (∃ j, f j = Finset.univ.fold max ⊥ f) ∧ ∀ i, f i ≤ Finset.univ.fold max ⊥ f := by
  have hle : ∀ i, f i ≤ Finset.univ.fold max ⊥ f := fun i =>
    (Finset.le_fold_max (f i)).mpr (.inr ⟨i, Finset.mem_univ i, le_rfl⟩)
  refine ⟨?_, hle⟩
  rcases (Finset.le_fold_max (Finset.univ.fold max ⊥ f)).mp le_rfl with h | ⟨j, -, h⟩
  · exact ⟨⟨0, h0⟩, le_antisymm (hle _) (h.trans bot_le)⟩
  · exact ⟨j, le_antisymm (hle _) h⟩

/-- The smallest index, counted from `o`, at which a window `f` attains its maximum. -/
def pick {n : ℕ} (o : ℕ) (f : Fin n → EReal) : BitVec 32 :=
  Finset.univ.fold IntOp.minsi 2147483647#32 fun i =>
    Scalar.select (Ideal.cmp .oeq (f i) (Finset.univ.fold max ⊥ f)) (BitVec.ofNat 32 (o + i.val)) 8192#32

theorem pick_spec {n : ℕ} (o : ℕ) (h0 : 0 < n) (ho : o + n ≤ 8192) (f : Fin n → EReal) :
    ∃ j, pick o f = BitVec.ofNat 32 (o + j.val) ∧ f j = Finset.univ.fold max ⊥ f ∧ IsBest f j := by
  obtain ⟨⟨j0, hj0⟩, hle⟩ := fold_max_attained h0 f
  have hsel : ∀ i, Scalar.select (Ideal.cmp .oeq (f i) (Finset.univ.fold max ⊥ f)) (BitVec.ofNat 32 (o + i.val)) 8192#32
      = if f i = Finset.univ.fold max ⊥ f then BitVec.ofNat 32 (o + i.val) else 8192#32 := fun i => by
    by_cases h : f i = Finset.univ.fold max ⊥ f <;> simp [Scalar.select, Ideal.cmp, h]
  have hp : pick o f = Finset.univ.fold IntOp.minsi 2147483647#32 fun i =>
      if f i = Finset.univ.fold max ⊥ f then BitVec.ofNat 32 (o + i.val) else 8192#32 := by
    unfold pick; simp only [hsel]
  have hw : ∀ i : Fin n, (BitVec.ofNat 32 (o + i.val)).toInt = ((o + i.val : ℕ) : ℤ) := fun i => word_toInt _ (by have := i.isLt; omega)
  obtain ⟨hm, hl⟩ := fold_minsi (fun i : Fin n => if f i = Finset.univ.fold max ⊥ f then BitVec.ofNat 32 (o + i.val) else 8192#32)
    2147483647#32 Finset.univ
  rw [← hp] at hm hl
  have hj : (pick o f).toInt ≤ ((o + j0.val : ℕ) : ℤ) := by
    have := hl j0 (Finset.mem_univ _)
    rw [if_pos hj0, hw] at this
    exact this
  have hj0' := j0.isLt
  rcases hm with e | ⟨j, -, e⟩
  · rw [e] at hj
    have : (2147483647#32 : BitVec 32).toInt = 2147483647 := by decide
    omega
  · by_cases hjm : f j = Finset.univ.fold max ⊥ f
    · rw [if_pos hjm] at e
      refine ⟨j, e, hjm, fun i => ⟨hjm ▸ hle i, fun hij => lt_of_le_of_ne (hjm ▸ hle i) fun hi => ?_⟩⟩
      have := hl i (Finset.mem_univ _)
      rw [if_pos (hi.trans hjm), e, hw, hw] at this
      rw [Fin.lt_def] at hij
      omega
    · rw [if_neg hjm] at e
      rw [e] at hj
      have : (8192#32 : BitVec 32).toInt = 8192 := by decide
      omega

/-! ## Two windows -/

/-- Index `i` of the first half, and of the second. -/
abbrev lo (i : Fin 4096) : Fin 8192 := ⟨i.val, by have := i.isLt; omega⟩
abbrev hi (i : Fin 4096) : Fin 8192 := ⟨4096 + i.val, by have := i.isLt; omega⟩

/-- The second window's pick where its maximum is strictly greater, else the first's. -/
def pickTwo (s : Fin 8192 → EReal) : BitVec 32 :=
  Scalar.select (Ideal.cmp .ogt (Finset.univ.fold max ⊥ fun i => s (hi i)) (Finset.univ.fold max ⊥ fun i => s (lo i)))
    (pick 4096 fun i => s (hi i)) (pick 0 fun i => s (lo i))

theorem pickTwo_spec (s : Fin 8192 → EReal) : ∃ j, IsBest s j ∧ pickTwo s = BitVec.ofNat 32 j.val := by
  obtain ⟨a, ea, ma, ba⟩ := pick_spec 0 (by decide) (by decide) fun i : Fin 4096 => s (lo i)
  obtain ⟨b, eb, mb, bb⟩ := pick_spec 4096 (by decide) (by decide) fun i : Fin 4096 => s (hi i)
  have split : ∀ P : Fin 8192 → Prop, (∀ i, P (lo i)) → (∀ i, P (hi i)) → ∀ i, P i := fun P h1 h2 i => by
    by_cases h : i.val < 4096
    · exact h1 ⟨i.val, h⟩
    · have e : i = hi ⟨i.val - 4096, by have := i.isLt; omega⟩ := Fin.ext (by show i.val = 4096 + (i.val - 4096); omega)
      rw [e]; exact h2 _
  unfold pickTwo
  rw [ea, eb, ← ma, ← mb]
  by_cases h : s (lo a) < s (hi b)
  · refine ⟨hi b, split _ (fun i => ?_) (fun i => ?_), by simp [Scalar.select, Ideal.cmp, h]⟩
    · have := ((ba i).1).trans_lt h
      exact ⟨this.le, fun _ => this⟩
    · exact ⟨(bb i).1, fun hij => (bb i).2 (by rw [Fin.lt_def] at hij ⊢; have h' : 4096 + i.val < 4096 + b.val := hij; omega)⟩
  · refine ⟨lo a, split _ (fun i => ?_) (fun i => ?_), by simp [Scalar.select, Ideal.cmp, h]⟩
    · exact ⟨(ba i).1, fun hij => (ba i).2 hij⟩
    · refine ⟨(bb i).1.trans (not_lt.mp h), fun hij => ?_⟩
      have h' : 4096 + i.val < a.val := hij
      have := a.isLt
      omega

end Cert.Proof

end
-- ==== Proof.KReads.lean ====
/-
  The layout operations and the reductions of the kernel's bodies read at an index, for blocks of any extents.
-/
module

public import proofs.«01_k».proof.Proof.Reals
public import proofs.«01_k».proof.Proof.Best
public import Idealize.ShloMosaic.Lib.IdealHost
public import Idealize.ShloMosaic.Lib.Pipeline.Value

@[expose] public section

noncomputable section

namespace Cert.Proof

open Idealize.ShloMosaic Idealize.ShloMosaic.ValueIdx
open scoped BigOperators

variable {α : Type} {m n : ℕ}

/-- A column repeated along the second axis of a block. -/
theorem spreadColumn_apply (h : (⟨2, ![m, 1]⟩ : Shape).Broadcasts ⟨2, ![m, n]⟩) (x : (⟨2, ![m, 1]⟩ : Shape).Idx → α)
    (o : Fin m) (k : Fin n) : broadcastTo ⟨2, ![m, n]⟩ x h (ix2 o k) = x (ix2 o 0) :=
  broadcastTo_apply x h _ (ix2 o 0) fun a => match a with
    | ⟨0, _⟩ => by show o.val = if m = 1 then 0 else o.val; have := o.isLt; split <;> omega
    | ⟨1, _⟩ => by show 0 = if 1 = 1 then 0 else k.val; rfl

/-- A row repeated along the first axis of a block. -/
theorem spreadRow_apply (h : (⟨2, ![1, n]⟩ : Shape).Broadcasts ⟨2, ![m, n]⟩) (x : (⟨2, ![1, n]⟩ : Shape).Idx → α)
    (o : Fin m) (k : Fin n) : broadcastTo ⟨2, ![m, n]⟩ x h (ix2 o k) = x (ix2 0 k) :=
  broadcastTo_apply x h _ (ix2 0 k) fun a => match a with
    | ⟨0, _⟩ => by show 0 = if 1 = 1 then 0 else o.val; rfl
    | ⟨1, _⟩ => by show k.val = if n = 1 then 0 else k.val; have := k.isLt; split <;> omega

/-- A cast to the same shape is the block. -/
theorem sameCast {s : Shape} (x : s.Idx → α) (h : s.ShapeCasts s) : shapeCast s x h = x :=
  funext fun i => shapeCast_apply x h i i rfl

/-- A vector as a column. -/
theorem toColumn_apply (x : (⟨1, ![m]⟩ : Shape).Idx → α) (h : (⟨1, ![m]⟩ : Shape).ShapeCasts ⟨2, ![m, 1]⟩) (o : Fin m) (u : Fin 1) :
    shapeCast ⟨2, ![m, 1]⟩ x h (ix2 o u) = x (ix1 o) :=
  shapeCast_apply x h _ _ (by
    rw [Shape.rowMajor_val_two, Shape.rowMajor_val_one]
    show o.val = o.val * 1 + u.val
    omega)

/-- A vector as a row. -/
theorem toRow_apply (x : (⟨1, ![n]⟩ : Shape).Idx → α) (h : (⟨1, ![n]⟩ : Shape).ShapeCasts ⟨2, ![1, n]⟩) (u : Fin 1) (k : Fin n) :
    shapeCast ⟨2, ![1, n]⟩ x h (ix2 u k) = x (ix1 k) :=
  shapeCast_apply x h _ _ (by
    rw [Shape.rowMajor_val_two, Shape.rowMajor_val_one]
    show k.val = u.val * n + k.val
    have : u.val = 0 := by omega
    rw [this, Nat.zero_mul, Nat.zero_add])

/-- A column as a vector. -/
theorem ofColumn_apply (x : (⟨2, ![m, 1]⟩ : Shape).Idx → α) (h : (⟨2, ![m, 1]⟩ : Shape).ShapeCasts ⟨1, ![m]⟩) (o : Fin m) :
    shapeCast ⟨1, ![m]⟩ x h (ix1 o) = x (ix2 o 0) :=
  shapeCast_apply x h _ _ (by
    rw [Shape.rowMajor_val_two, Shape.rowMajor_val_one]
    show o.val * 1 + 0 = o.val
    omega)

/-- A vector under two unit axes. -/
theorem underUnits_apply (x : (⟨1, ![n]⟩ : Shape).Idx → α) (h : (⟨1, ![n]⟩ : Shape).ShapeCasts ⟨3, ![1, 1, n]⟩)
    (a b : Fin 1) (k : Fin n) : shapeCast ⟨3, ![1, 1, n]⟩ x h (ix3 a b k) = x (ix1 k) :=
  shapeCast_apply x h _ _ (by
    rw [Shape.rowMajor_val_three, Shape.rowMajor_val_one]
    show k.val = (a.val * 1 + b.val) * n + k.val
    have ha : a.val = 0 := by omega
    have hb : b.val = 0 := by omega
    rw [ha, hb]; simp)

/-- A matrix under one unit axis. -/
theorem underUnit_apply (x : (⟨2, ![m, n]⟩ : Shape).Idx → α) (h : (⟨2, ![m, n]⟩ : Shape).ShapeCasts ⟨3, ![1, m, n]⟩)
    (a : Fin 1) (o : Fin m) (k : Fin n) : shapeCast ⟨3, ![1, m, n]⟩ x h (ix3 a o k) = x (ix2 o k) :=
  shapeCast_apply x h _ _ (by
    rw [Shape.rowMajor_val_three, Shape.rowMajor_val_two]
    show o.val * n + k.val = (a.val * m + o.val) * n + k.val
    have ha : a.val = 0 := by omega
    rw [ha, Nat.zero_mul, Nat.zero_add])

/-- The unit axis dropped again. -/
theorem dropUnit_apply (x : (⟨3, ![1, m, n]⟩ : Shape).Idx → α) (h : (⟨3, ![1, m, n]⟩ : Shape).ShapeCasts ⟨2, ![m, n]⟩)
    (o : Fin m) (k : Fin n) : shapeCast ⟨2, ![m, n]⟩ x h (ix2 o k) = x (ix3 0 o k) :=
  shapeCast_apply x h _ _ (by
    rw [Shape.rowMajor_val_three, Shape.rowMajor_val_two]
    show (0 * m + o.val) * n + k.val = o.val * n + k.val
    rw [Nat.zero_mul, Nat.zero_add])

/-- A matrix transposed. -/
theorem transposed_apply (x : (⟨2, ![m, n]⟩ : Shape).Idx → α) (h : (⟨2, ![m, n]⟩ : Shape).Transposes [1, 0] ⟨2, ![n, m]⟩)
    (k : Fin n) (o : Fin m) : transpose ⟨2, ![n, m]⟩ [1, 0] x h (ix2 k o) = x (ix2 o k) :=
  transpose_apply _ x h _ (ix2 o k) fun a => match a with
    | ⟨0, _⟩ => rfl
    | ⟨1, _⟩ => rfl

/-- A run of columns of a matrix. -/
theorem cut_apply {p : ℕ} (o : ℕ) (x : (⟨2, ![m, n]⟩ : Shape).Idx → α) (h : (⟨2, ![m, n]⟩ : Shape).Slices ![0, o] ⟨2, ![m, p]⟩)
    (r : Fin m) (k : Fin p) (k' : Fin n) (hk : k'.val = o + k.val) :
    extractStridedSlice ⟨2, ![m, p]⟩ ![0, o] x h (ix2 r k) = x (ix2 r k') :=
  extractStridedSlice_apply _ x h _ _ fun a => match a with
    | ⟨0, _⟩ => (Nat.zero_add r.val).symm
    | ⟨1, _⟩ => hk

/-- The sum of a row of a block. -/
theorem sumRow_apply (x : FVec Ideal ⟨2, ![m, n]⟩ .f32) (h : (⟨2, ![m, n]⟩ : Shape).Reduces [1] ⟨1, ![m]⟩) (o : Fin m) :
    multiReduction .add [1] ⟨1, ![m]⟩ x 0x00000000#32 h (.inl rfl) rfl (ix1 o) = ∑ k : Fin n, x (ix2 o k) := by
  refine (Ideal.multiReduction_add_single x _ h (.inl rfl) rfl (ix1 o)).trans ?_
  refine Finset.sum_congr rfl fun k _ => congrArg x (funext fun a => Fin.ext ?_)
  match a with
  | ⟨0, _⟩ => rfl
  | ⟨1, _⟩ => rfl

/-- The sum of a column of a block. -/
theorem sumColumn_apply (x : FVec Ideal ⟨2, ![m, n]⟩ .f32) (h : (⟨2, ![m, n]⟩ : Shape).Reduces [0] ⟨1, ![n]⟩) (k : Fin n) :
    multiReduction .add [0] ⟨1, ![n]⟩ x 0x00000000#32 h (.inl rfl) rfl (ix1 k) = ∑ o : Fin m, x (ix2 o k) := by
  refine (Ideal.multiReduction_add_single x _ h (.inl rfl) rfl (ix1 k)).trans ?_
  refine Finset.sum_congr rfl fun o _ => congrArg x (funext fun a => Fin.ext ?_)
  match a with
  | ⟨0, _⟩ => rfl
  | ⟨1, _⟩ => rfl

/-- The greatest entry of a row of a block. -/
theorem maxRow_apply (x : FVec Ideal ⟨2, ![m, n]⟩ .f32) (h : (⟨2, ![m, n]⟩ : Shape).Reduces [1] ⟨1, ![m]⟩) (o : Fin m) :
    multiReduction .maximumf [1] ⟨1, ![m]⟩ x 0xFF800000#32 h (.inl rfl) rfl (ix1 o)
      = (Finset.univ : Finset (Fin n)).fold max ⊥ fun k => x (ix2 o k) := by
  refine (Ideal.multiReduction_maximumf_single x _ h (.inl rfl) rfl (ix1 o)).trans ?_
  have e0 : (FloatOps.ofBits (F := Ideal) .f32 0xFF800000#32 : EReal) = ⊥ := by
    show Ideal.ofBits .f32 0xFF800000#32 = ⊥
    simp [Ideal.ofBits, Ideal.ieee]
  have ef : (x ∘ h.lift (ix1 o) : Fin n → EReal) = fun k => x (ix2 o k) := by
    funext k
    refine congrArg x (funext fun a => Fin.ext ?_)
    match a with
    | ⟨0, _⟩ => rfl
    | ⟨1, _⟩ => rfl
  have key : ∀ (b : EReal) (f g : Fin n → EReal), b = ⊥ → f = g → Finset.univ.fold max b f = Finset.univ.fold max ⊥ g := by
    rintro _ _ _ rfl rfl; rfl
  exact key _ _ _ e0 ef

/-- The least word of a row of a block. -/
theorem minRow_apply (x : IVec ⟨2, ![m, n]⟩ 32) (h : (⟨2, ![m, n]⟩ : Shape).Reduces [1] ⟨1, ![m]⟩) (o : Fin m) :
    multiReductionI .minsi [1] ⟨1, ![m]⟩ x 2147483647#32 h rfl (ix1 o)
      = (Finset.univ : Finset (Fin n)).fold IntOp.minsi 2147483647#32 fun k => x (ix2 o k) := by
  refine (multiReductionI_eq_fold .minsi x _ h rfl (ix1 o)).trans ?_
  refine (h.fold_filter_drop_single IntOp.minsi 2147483647#32 x (ix1 o)).trans ?_
  have ef : (x ∘ h.lift (ix1 o) : Fin n → BitVec 32) = fun k => x (ix2 o k) := by
    funext k
    refine congrArg x (funext fun a => Fin.ext ?_)
    match a with
    | ⟨0, _⟩ => rfl
    | ⟨1, _⟩ => rfl
  exact congrArg (Finset.univ.fold IntOp.minsi 2147483647#32) ef

/-- The square root as the bodies write it, at an index. -/
theorem root_apply {s : Shape} (x : FVec Ideal s .f32) (i : s.Idx) :
    select (cmpf .oeq x (broadcast s (Scalar.ofBits (F := Ideal) .f32 0x00000000#32))) (broadcast s (Scalar.ofBits (F := Ideal) .f32 0x00000000#32)) (mulf x (rsqrt x)) i
      = root (x i) := by
  show Scalar.select (Ideal.cmp .oeq (x i) (Ideal.ofBits .f32 0x00000000#32)) (Ideal.ofBits .f32 0x00000000#32) (x i * Ideal.rsqrt (x i)) = _
  rw [Ideal.ofBits_zero_f32]
  rfl

end Cert.Proof

end
-- ==== Proof.KPrep.lean ====
/-
  What the first launch's body computes, at an index: the codes over their norms, the squares of those summed, and the two
  weights.
-/
module

public import proofs.«01_k».proof.Proof.KReads
public import proofs.«01_k».proof.Proof.Gen.KernelIdeal.Skeleton

@[expose] public section

noncomputable section

namespace Cert.Proof

open Idealize.ShloMosaic

/-- A family over its norm as the kernel writes it: the root by the reciprocal root. -/
def unitR {n : ℕ} (x : Fin n → EReal) (d : Fin n) : EReal := Ideal.div (x d) (max (root (sqSum x)) eps)

theorem unitR_eq {n : ℕ} {x : Fin n → EReal} (h : ∀ k, IsReal (x k)) : unitR x = unit x := by
  funext d
  unfold unitR unit
  rw [root_eq (sqSum_real h) (sqSum_nonneg x h)]

/-- A normalised weight as the kernel writes it. -/
def weightR {n : ℕ} (g : EReal) (v : Fin n → EReal) (k : Fin n) : EReal := Ideal.div (g * v k) (root (sqSum v))

theorem weightR_eq {n : ℕ} (g : EReal) {v : Fin n → EReal} (h : ∀ k, IsReal (v k)) : weightR g v = weight g v := by
  funext d
  unfold weightR weight
  rw [root_eq (sqSum_real h) (sqSum_nonneg v h)]

end Cert.Proof

namespace Cert.Proof.K

open Idealize.ShloMosaic Idealize.ShloMosaic.ValueIdx
open Cert.KernelIdeal Cert.KernelIdeal.Gen

/-- The host-constant at an index of a broadcast word. -/
theorem word_apply {s : Shape} (b : BitVec (FTy.bits .f32)) (i : s.Idx) :
    broadcast s (Scalar.ofBits (F := Ideal) .f32 b) i = Ideal.ofBits .f32 b := rfl

/-- A code over its norm. -/
theorem code_apply (v : FVec Ideal S8x8192 .f32) (d : Fin 8) (k : Fin 8192) :
    k0_pay3 (F := Ideal) v (ix2 d k) = unitR (fun d : Fin 8 => v (ix2 d k)) d := by
  unfold k0_pay3
  rw [sameCast]
  rw [divf_apply, spreadRow_apply, maximumf_apply, root_apply, toRow_apply, sumColumn_apply]
  rfl

/-- It after the rounding, which the real values do not see. -/
theorem code_cast (v : FVec Ideal S8x8192 .f32) (d : Fin 8) (k : Fin 8192) :
    k0_pay4 (F := Ideal) v (ix2 d k) = unitR (fun d : Fin 8 => v (ix2 d k)) d := by
  unfold k0_pay4
  rw [truncf_apply, code_apply]

/-- The sum of its squares. -/
theorem codeSq_apply (v : FVec Ideal S8x8192 .f32) (k : Fin 8192) :
    k0_pay5 (F := Ideal) v (ix2 0 k) = sqSum (unitR fun d : Fin 8 => v (ix2 d k)) := by
  unfold k0_pay5
  rw [toRow_apply, sumColumn_apply]
  refine Finset.sum_congr rfl fun d _ => ?_
  rw [mulf_apply, code_apply]

/-- The codes themselves. -/
theorem codes_apply (v : FVec Ideal S8192x8 .f32) (i : S8192x8.Idx) : k0_pay6 (F := Ideal) v i = v i := rfl

/-- The weight of the projection in. -/
theorem inWeight_apply (v : FVec Ideal S8x1024 .f32) (g : FVec Ideal S8x1 .f32) (o : Fin 8) (k : Fin 1024) :
    k0_pay1 (F := Ideal) (k0_pay7 (F := Ideal) v g) (k0_pay9 (F := Ideal) v) (k0_pay10 (F := Ideal) v) (ix2 o k) = weightR (g (ix2 o 0)) (fun k => v (ix2 o k)) k := by
  have e8 : k0_pay8 (F := Ideal) v (ix2 o 0) = sqSum fun k : Fin 1024 => v (ix2 o k) := by
    unfold k0_pay8
    rw [toColumn_apply, sumRow_apply]
    rfl
  unfold k0_pay1 k0_pay7 k0_pay9 k0_pay10
  rw [truncf_apply, divf_apply, mulf_apply, spreadColumn_apply, spreadColumn_apply, root_apply, sameCast, e8]
  rfl

/-- The weight of the projection back. -/
theorem outWeight_apply (v : FVec Ideal S1024x8 .f32) (g : FVec Ideal S1024x1 .f32) (o : Fin 1024) (k : Fin 8) :
    k0_pay2 (F := Ideal) v g (ix2 o k) = weightR (g (ix2 o 0)) (fun k => v (ix2 o k)) k := by
  unfold k0_pay2
  rw [truncf_apply, divf_apply, mulf_apply, spreadColumn_apply, spreadColumn_apply, root_apply, sameCast, toColumn_apply,
    sumRow_apply]
  rfl

end Cert.Proof.K

end
-- ==== Proof.KMain.lean ====
/-
  What one block of the second launch computes, at an index: the projection in, the index of the best code of each row, and the
  projection back of that code.
-/
module

public import proofs.«01_k».proof.Proof.KPrep

@[expose] public section

noncomputable section

namespace Cert.Proof.K

open Idealize.ShloMosaic Idealize.ShloMosaic.ValueIdx
open Cert.KernelIdeal Cert.KernelIdeal.Gen
open scoped BigOperators

/-! ## The four products -/

theorem dotIn_apply (A : FVec Ideal S8x1024 .bf16) (B : FVec Ideal S1024x512 .bf16) (o : Fin 8) (t : Fin 512) :
    matmul dot_S8x1024_S1024x512_S8x512_1_0_0_1_n_n none A B (constant S8x512 .f32 0x00000000#32) (ix2 o t)
      = ∑ k : Fin 1024, A (ix2 o k) * B (ix2 k t) := by
  show FloatOps.matmul _ none A B _ (ix2 o t) = _
  rw [Ideal.matmul_constant_zero_apply, ← Equiv.sum_comp (contrEquiv1 dot_S8x1024_S1024x512_S8x512_1_0_0_1_n_n 1024 rfl rfl).symm]
  refine Finset.sum_congr rfl fun k _ => ?_
  have hk := contrEquiv1_symm_val dot_S8x1024_S1024x512_S8x512_1_0_0_1_n_n 1024 rfl rfl k
  congr 1
  · refine congrArg A (funext fun a => Fin.ext ?_)
    match a with
    | ⟨0, _⟩ => simp [DotDims.lhsIdx, dot_S8x1024_S1024x512_S8x512_1_0_0_1_n_n]; rfl
    | ⟨1, _⟩ => simp [DotDims.lhsIdx, dot_S8x1024_S1024x512_S8x512_1_0_0_1_n_n]; exact hk
  · refine congrArg B (funext fun a => Fin.ext ?_)
    match a with
    | ⟨0, _⟩ => simp [DotDims.rhsIdx, dot_S8x1024_S1024x512_S8x512_1_0_0_1_n_n]; exact hk
    | ⟨1, _⟩ => simp [DotDims.rhsIdx, dot_S8x1024_S1024x512_S8x512_1_0_0_1_n_n]; rfl

theorem dotCodes_apply (A : FVec Ideal S8x512 .bf16) (B : FVec Ideal S8x8192 .bf16) (t : Fin 512) (c : Fin 8192) :
    matmul dot_S8x512_S8x8192_S512x8192_0_0_1_1_n_n none A B (constant S512x8192 .f32 0x00000000#32) (ix2 t c)
      = ∑ d : Fin 8, A (ix2 d t) * B (ix2 d c) := by
  show FloatOps.matmul _ none A B _ (ix2 t c) = _
  rw [Ideal.matmul_constant_zero_apply, ← Equiv.sum_comp (contrEquiv1 dot_S8x512_S8x8192_S512x8192_0_0_1_1_n_n 8 rfl rfl).symm]
  refine Finset.sum_congr rfl fun k _ => ?_
  have hk := contrEquiv1_symm_val dot_S8x512_S8x8192_S512x8192_0_0_1_1_n_n 8 rfl rfl k
  congr 1
  · refine congrArg A (funext fun a => Fin.ext ?_)
    match a with
    | ⟨0, _⟩ => simp [DotDims.lhsIdx, dot_S8x512_S8x8192_S512x8192_0_0_1_1_n_n]; exact hk
    | ⟨1, _⟩ => simp [DotDims.lhsIdx, dot_S8x512_S8x8192_S512x8192_0_0_1_1_n_n]; rfl
  · refine congrArg B (funext fun a => Fin.ext ?_)
    match a with
    | ⟨0, _⟩ => simp [DotDims.rhsIdx, dot_S8x512_S8x8192_S512x8192_0_0_1_1_n_n]; exact hk
    | ⟨1, _⟩ => simp [DotDims.rhsIdx, dot_S8x512_S8x8192_S512x8192_0_0_1_1_n_n]; rfl

theorem dotTake_apply (A : FVec Ideal S512x8192 .bf16) (B : FVec Ideal S8192x8 .bf16) (t : Fin 512) (d : Fin 8) :
    matmul dot_S512x8192_S8192x8_S512x8_1_0_0_1_n_n none A B (constant S512x8 .f32 0x00000000#32) (ix2 t d)
      = ∑ k : Fin 8192, A (ix2 t k) * B (ix2 k d) := by
  show FloatOps.matmul _ none A B _ (ix2 t d) = _
  rw [Ideal.matmul_constant_zero_apply, ← Equiv.sum_comp (contrEquiv1 dot_S512x8192_S8192x8_S512x8_1_0_0_1_n_n 8192 rfl rfl).symm]
  refine Finset.sum_congr rfl fun k _ => ?_
  have hk := contrEquiv1_symm_val dot_S512x8192_S8192x8_S512x8_1_0_0_1_n_n 8192 rfl rfl k
  congr 1
  · refine congrArg A (funext fun a => Fin.ext ?_)
    match a with
    | ⟨0, _⟩ => simp [DotDims.lhsIdx, dot_S512x8192_S8192x8_S512x8_1_0_0_1_n_n]; rfl
    | ⟨1, _⟩ => simp [DotDims.lhsIdx, dot_S512x8192_S8192x8_S512x8_1_0_0_1_n_n]; exact hk
  · refine congrArg B (funext fun a => Fin.ext ?_)
    match a with
    | ⟨0, _⟩ => simp [DotDims.rhsIdx, dot_S512x8192_S8192x8_S512x8_1_0_0_1_n_n]; exact hk
    | ⟨1, _⟩ => simp [DotDims.rhsIdx, dot_S512x8192_S8192x8_S512x8_1_0_0_1_n_n]; rfl

theorem dotOut_apply (A : FVec Ideal S1024x8 .bf16) (B : FVec Ideal S512x8 .bf16) (o : Fin 1024) (t : Fin 512) :
    matmul dot_S1024x8_S512x8_S1024x512_1_1_0_0_n_n none A B (constant S1024x512 .f32 0x00000000#32) (ix2 o t)
      = ∑ d : Fin 8, A (ix2 o d) * B (ix2 t d) := by
  show FloatOps.matmul _ none A B _ (ix2 o t) = _
  rw [Ideal.matmul_constant_zero_apply, ← Equiv.sum_comp (contrEquiv1 dot_S1024x8_S512x8_S1024x512_1_1_0_0_n_n 8 rfl rfl).symm]
  refine Finset.sum_congr rfl fun k _ => ?_
  have hk := contrEquiv1_symm_val dot_S1024x8_S512x8_S1024x512_1_1_0_0_n_n 8 rfl rfl k
  congr 1
  · refine congrArg A (funext fun a => Fin.ext ?_)
    match a with
    | ⟨0, _⟩ => simp [DotDims.lhsIdx, dot_S1024x8_S512x8_S1024x512_1_1_0_0_n_n]; rfl
    | ⟨1, _⟩ => simp [DotDims.lhsIdx, dot_S1024x8_S512x8_S1024x512_1_1_0_0_n_n]; exact hk
  · refine congrArg B (funext fun a => Fin.ext ?_)
    match a with
    | ⟨0, _⟩ => simp [DotDims.rhsIdx, dot_S1024x8_S512x8_S1024x512_1_1_0_0_n_n]; rfl
    | ⟨1, _⟩ => simp [DotDims.rhsIdx, dot_S1024x8_S512x8_S1024x512_1_1_0_0_n_n]; exact hk

/-! ## The projection in and its rows over their norms -/

section

variable (z : FVec Ideal S1x1024x512 .f32) (w : FVec Ideal S8x1024 .bf16) (b : FVec Ideal S8x1 .f32)

theorem enc_apply (o : Fin 8) (t : Fin 512) :
    k1_pay2 (F := Ideal) z w b (ix2 o t) = (∑ k : Fin 1024, w (ix2 o k) * z (ix3 0 k t)) + b (ix2 o 0) := by
  unfold k1_pay2
  rw [addf_apply, dotIn_apply, spreadColumn_apply, sameCast, sameCast]
  refine congrArg (· + b (ix2 o 0)) (Finset.sum_congr rfl fun k _ => ?_)
  rw [truncf_apply, dropUnit_apply]

/-- A row of the projection. -/
def enc (t : Fin 512) (d : Fin 8) : EReal := k1_pay2 (F := Ideal) z w b (ix2 d t)

theorem encNorm_apply (t : Fin 512) : k1_pay4 (F := Ideal) z w b (ix2 0 t) = max (root (sqSum (enc z w b t))) eps := by
  unfold k1_pay4
  rw [maximumf_apply, root_apply, toRow_apply, sumColumn_apply]
  rfl

theorem encUnit_apply (d : Fin 8) (t : Fin 512) :
    divf (k1_pay2 (F := Ideal) z w b) (broadcastTo S8x512 (k1_pay4 (F := Ideal) z w b) broadcasts_S1x512_S8x512) (ix2 d t) = unitR (enc z w b t) d := by
  rw [divf_apply, spreadRow_apply, encNorm_apply]
  rfl

theorem products_apply (c : FVec Ideal S8x8192 .bf16) (t : Fin 512) (k : Fin 8192) :
    k1_pay5 (F := Ideal) z w b c (ix2 t k) = ∑ d : Fin 8, unitR (enc z w b t) d * two * c (ix2 d k) := by
  unfold k1_pay5
  rw [dotCodes_apply, sameCast]
  refine Finset.sum_congr rfl fun d _ => ?_
  rw [truncf_apply, mulf_apply, encUnit_apply]
  rfl

theorem squares_apply (d : Fin 8) (t : Fin 512) :
    k1_pay6 (F := Ideal) z w b (ix2 d t) = unitR (enc z w b t) d * unitR (enc z w b t) d := by
  unfold k1_pay6
  rw [mulf_apply, encUnit_apply]

end

/-! ## The index of the best code -/

/-- The scores of a row: the products, less the row's squares, less the code's. -/
def blockScore (p : FVec Ideal S512x8192 .f32) (q : FVec Ideal S8x512 .f32) (c : FVec Ideal S1x8192 .f32) (t : Fin 512)
    (k : Fin 8192) : EReal := p (ix2 t k) - (∑ d : Fin 8, q (ix2 d t)) - c (ix2 0 k)

section

variable (p : FVec Ideal S512x8192 .f32) (q : FVec Ideal S8x512 .f32) (c : FVec Ideal S1x8192 .f32)

/-- The scores of a block as the body writes them. -/
def scoreBlock : FVec Ideal S512x8192 .f32 :=
  subf (subf p (broadcastTo S512x8192 (transpose S512x1 [1, 0] (shapeCast S1x512
    (multiReduction .add [0] S512 q 0x00000000#32 reduces_S8x512_S512 (.inl rfl) rfl) shapeCasts_S512_S1x512) transposes_S1x512_p1_0_S512x1)
    broadcasts_S512x1_S512x8192)) (broadcastTo S512x8192 (shapeCast S1x8192 c shapeCasts_S1x8192_S1x8192) broadcasts_S1x8192_S512x8192)

theorem scoreBlock_apply (t : Fin 512) (k : Fin 8192) : scoreBlock p q c (ix2 t k) = blockScore p q c t k := by
  unfold scoreBlock
  rw [subf_apply, subf_apply, spreadColumn_apply, spreadRow_apply, transposed_apply, toRow_apply, sumColumn_apply, sameCast]
  rfl

end

/-- The best of one run of columns: the least position among those whose score is the greatest. -/
theorem window_apply (s : FVec Ideal S512x8192 .f32) (o : ℕ) (h : S512x8192.Slices ![0, o] S512x4096) (e : Fin 4096 → Fin 8192)
    (he : ∀ i, (e i).val = o + i.val) (t : Fin 512) (u : Fin 1) :
    shapeCast S512x1 (multiReductionI .minsi [1] S512 (select (cmpf .oeq (extractStridedSlice S512x4096 ![0, o] s h)
        (broadcastTo S512x4096 (shapeCast S512x1 (multiReduction .maximumf [1] S512 (extractStridedSlice S512x4096 ![0, o] s h) 0xFF800000#32
          reduces_S512x4096_S512 (.inl rfl) rfl) shapeCasts_S512_S512x1) broadcasts_S512x1_S512x4096))
        (extractStridedSlice S512x4096 ![0, o] (iota .tc S512x8192 32 [1] iota_S512x8192_d1_w32) h) (broadcast S512x4096 8192#32))
        2147483647#32 reduces_S512x4096_S512 rfl) shapeCasts_S512_S512x1 (ix2 t u)
      = pick o fun i => s (ix2 t (e i)) := by
  rw [toColumn_apply, minRow_apply]
  unfold pick
  refine congrArg (Finset.univ.fold IntOp.minsi 2147483647#32) (funext fun i => ?_)
  rw [select_apply, cmpf_apply, spreadColumn_apply, toColumn_apply, maxRow_apply,
    cut_apply o s h t i (e i) (he i), cut_apply o _ h t i (e i) (he i), iota_single_apply]
  have em : (fun k : Fin 4096 => extractStridedSlice S512x4096 ![0, o] s h (ix2 t k)) = fun k => s (ix2 t (e k)) :=
    funext fun k => cut_apply o s h t k (e k) (he k)
  rw [em]
  show Scalar.select _ (BitVec.ofNat 32 (e i).val) _ = _
  rw [he i]
  rfl

/-- The greatest of one run of columns. -/
theorem windowMax_apply (s : FVec Ideal S512x8192 .f32) (o : ℕ) (h : S512x8192.Slices ![0, o] S512x4096) (e : Fin 4096 → Fin 8192)
    (he : ∀ i, (e i).val = o + i.val) (t : Fin 512) (u : Fin 1) :
    shapeCast S512x1 (multiReduction .maximumf [1] S512 (extractStridedSlice S512x4096 ![0, o] s h) 0xFF800000#32
      reduces_S512x4096_S512 (.inl rfl) rfl) shapeCasts_S512_S512x1 (ix2 t u)
      = Finset.univ.fold max ⊥ fun i => s (ix2 t (e i)) := by
  rw [toColumn_apply, maxRow_apply]
  exact congrArg (Finset.univ.fold max ⊥) (funext fun k => cut_apply o s h t k (e k) (he k))

section

variable (p : FVec Ideal S512x8192 .f32) (q : FVec Ideal S8x512 .f32) (c : FVec Ideal S1x8192 .f32)

theorem index_apply (t : Fin 512) : k1_pay7 (F := Ideal) p q c (ix2 t 0) = pickTwo (blockScore p q c t) := by
  have es : (fun k => scoreBlock p q c (ix2 t k)) = blockScore p q c t := funext fun k => scoreBlock_apply p q c t k
  rw [← es]
  unfold k1_pay7 pickTwo
  rw [select_apply, cmpf_apply, extf_apply, truncf_apply]
  refine congr (congr (congrArg Scalar.select (congr (congrArg (Ideal.cmp .ogt) ?_) ?_)) ?_) ?_
  · exact windowMax_apply (scoreBlock p q c) 4096 slices_S512x8192_o0_4096_S512x4096 hi (fun _ => rfl) t 0
  · exact windowMax_apply (scoreBlock p q c) 0 slices_S512x8192_o0_0_S512x4096 lo (fun i => (Nat.zero_add i.val).symm) t 0
  · exact window_apply (scoreBlock p q c) 4096 slices_S512x8192_o0_4096_S512x4096 hi (fun _ => rfl) t 0
  · exact window_apply (scoreBlock p q c) 0 slices_S512x8192_o0_0_S512x4096 lo (fun i => (Nat.zero_add i.val).symm) t 0

theorem indexOut_apply (a u : Fin 1) (t : Fin 512) : k1_pay8 (F := Ideal) p q c (ix3 a u t) = pickTwo (blockScore p q c t) := by
  unfold k1_pay8
  rw [underUnits_apply, ofColumn_apply, index_apply]

/-- The row of marks: one at the index, zero elsewhere. -/
theorem mark_apply (t : Fin 512) (j k : Fin 8192) (hj : k1_pay7 (F := Ideal) p q c (ix2 t 0) = BitVec.ofNat 32 j.val) :
    k1_pay9 (F := Ideal) p q c (ix2 t k) = if k = j then 1 else 0 := by
  unfold k1_pay9
  rw [truncf_apply, sitofp_apply, extui_apply]
  have e : (cmpi .eq (iota .tc S512x8192 32 [1] iota_S512x8192_d1_w32) (broadcastTo S512x8192 (k1_pay7 (F := Ideal) p q c) broadcasts_S512x1_S512x8192)) (ix2 t k)
      = IntOp.cmpi .eq (BitVec.ofNat 32 k.val) (BitVec.ofNat 32 j.val) := by
    show IntOp.cmpi .eq (iota .tc S512x8192 32 [1] iota_S512x8192_d1_w32 (ix2 t k)) (broadcastTo S512x8192 (k1_pay7 (F := Ideal) p q c) broadcasts_S512x1_S512x8192 (ix2 t k)) = _
    rw [iota_single_apply, spreadColumn_apply, hj]
  rw [e]
  by_cases h : k = j
  · have e1 : IntOp.cmpi .eq (BitVec.ofNat 32 k.val) (BitVec.ofNat 32 j.val) = 1#1 := by rw [h]; simp [IntOp.cmpi]
    rw [e1, if_pos h]
    show (((BitVec.setWidth 32 1#1).toInt : ℝ) : EReal) = 1
    rw [show (BitVec.setWidth 32 1#1).toInt = 1 from by decide]
    simp
  · have hn : BitVec.ofNat 32 k.val ≠ BitVec.ofNat 32 j.val := fun h' => h (Fin.ext (by
      have := congrArg BitVec.toNat h'
      rw [BitVec.toNat_ofNat, BitVec.toNat_ofNat] at this
      have := k.isLt; have := j.isLt
      omega))
    have e1 : IntOp.cmpi .eq (BitVec.ofNat 32 k.val) (BitVec.ofNat 32 j.val) = 0#1 := by
      simp only [IntOp.cmpi]
      rw [beq_eq_false_iff_ne.mpr hn]
      rfl
    rw [e1, if_neg h]
    show (((BitVec.setWidth 32 0#1).toInt : ℝ) : EReal) = 0
    rw [show (BitVec.setWidth 32 0#1).toInt = 0 from by decide]
    simp

end

/-! ## The code taken and projected back -/

theorem back_apply (a : FVec Ideal S512x8192 .bf16) (cb : FVec Ideal S8192x8 .bf16) (w : FVec Ideal S1024x8 .bf16) (b : FVec Ideal S1024x1 .f32)
    (u : Fin 1) (o : Fin 1024) (t : Fin 512) (j : Fin 8192) (h : ∀ k : Fin 8192, a (ix2 t k) = if k = j then 1 else 0) :
    k1_pay1 (F := Ideal) a cb (constant S512x8 .f32 0x00000000#32) w b (ix3 u o t) = (∑ d : Fin 8, w (ix2 o d) * cb (ix2 j d)) + b (ix2 o 0) := by
  unfold k1_pay1
  rw [underUnit_apply, addf_apply, dotOut_apply, spreadColumn_apply, sameCast, sameCast]
  refine congrArg (· + b (ix2 o 0)) (Finset.sum_congr rfl fun d _ => congrArg (w (ix2 o d) * ·) ?_)
  rw [truncf_apply, dotTake_apply, Finset.sum_eq_single j]
  · rw [h, if_pos rfl, one_mul]
  · intro k _ hk
    rw [h, if_neg hk, zero_mul]
  · exact fun hn => absurd (Finset.mem_univ j) hn

end Cert.Proof.K

end
-- ==== Proof.KPrepArr.lean ====
/-
  What the first launch leaves in its five arrays: its one point's blocks are the whole arrays.
-/
module

public import proofs.«01_k».proof.Proof.KPrep
public import proofs.«01_k».proof.Proof.Gen.KernelIdeal.Frame
public import Idealize.ShloMosaic.Lib.Pipeline.Value

@[expose] public section

noncomputable section

namespace Cert.Proof.K

open Idealize.ShloMosaic Idealize.ShloMosaic.TcCoe Idealize.ShloMosaic.ValueIdx Idealize.ShloMosaic.Pipeline
open Cert.KernelIdeal Cert.KernelIdeal.Gen

theorem zero2 : (![0, 0] : Fin 2 → Nat) = fun _ => 0 := funext fun a => by fin_cases a <;> rfl
theorem zero3 : (![0, 0, 0] : Fin 3 → Nat) = fun _ => 0 := funext fun a => by fin_cases a <;> rfl

variable (V : (c : Dev nD) → (b : Ref sig .tc) → Buf (Elt Ideal) ((c : Thread nD τ).loc b)) (c : Dev nD)

/-! ## The blocks the point reads -/

theorem in0_0 (t : Fin cfg0.N) : iblk0 V c 0 t = V c main_v0 :=
  funext fun i => congrArg (V c main_v0) (funext fun a => Fin.ext (win0_0.rect_emb_val_of_index_zero t a rfl i))
theorem in0_1 (t : Fin cfg0.N) : iblk0 V c 1 t = V c main_arg7 :=
  funext fun i => congrArg (V c main_arg7) (funext fun a => Fin.ext (win0_1.rect_emb_val_of_index_zero t a rfl i))
theorem in0_2 (t : Fin cfg0.N) : iblk0 V c 2 t = V c main_arg1 :=
  funext fun i => congrArg (V c main_arg1) (funext fun a => Fin.ext (win0_2.rect_emb_val_of_index_zero t a rfl i))
theorem in0_3 (t : Fin cfg0.N) : iblk0 V c 3 t = V c main_v1 :=
  funext fun i => congrArg (V c main_v1) (funext fun a => Fin.ext (win0_3.rect_emb_val_of_index_zero t a rfl i))
theorem in0_4 (t : Fin cfg0.N) : iblk0 V c 4 t = V c main_arg4 :=
  funext fun i => congrArg (V c main_arg4) (funext fun a => Fin.ext (win0_4.rect_emb_val_of_index_zero t a rfl i))
theorem in0_5 (t : Fin cfg0.N) : iblk0 V c 5 t = V c main_v2 :=
  funext fun i => congrArg (V c main_v2) (funext fun a => Fin.ext (win0_5.rect_emb_val_of_index_zero t a rfl i))

/-! ## The arrays it leaves -/

theorem final0_6 : (dat0 V c).arrAt 6 cfg0.N = k0_pay4 (F := Ideal) (V c main_v0) := by
  refine (dat0 V c).arrAt_eq_of_cover 6 _ (fun t _ => ?_) fun i => ⟨t0_0, flush0_6 _, ?_⟩
  · show (cfg0.win 6).cut (grid0.coords t) ((dat0 V c).after 6 t) = _
    rw [after0_6]
    unfold out0_6
    rw [View.canon_unit_zero zero2, View.ld_unit_zero zero2, in0_0]
    exact funext fun y => congrArg (k0_pay4 (F := Ideal) (V c main_v0)) (funext fun a => Fin.ext (win0_6.rect_emb_val_of_index_zero t a rfl y).symm)
  · show i ∈ ((View.whole main_v3_0).slice (win0_6.rect t0_0)).set
    rw [View.set_slice_whole, Rect.mem_set_unit]
    exact fun a => ⟨by show 0 * _ ≤ _; omega, by show _ < 0 * _ + _; have := (i a).isLt; rw [Nat.zero_mul, Nat.zero_add]; exact this⟩

theorem final0_7 : (dat0 V c).arrAt 7 cfg0.N
    = k0_pay5 (F := Ideal) (V c main_v0) := by
  refine (dat0 V c).arrAt_eq_of_cover 7 _ (fun t _ => ?_) fun i => ⟨t0_0, flush0_7 _, ?_⟩
  · show (cfg0.win 7).cut (grid0.coords t) ((dat0 V c).after 7 t) = _
    rw [after0_7]
    unfold out0_7
    rw [View.canon_unit_zero zero2, View.ld_unit_zero zero2, in0_0]
    exact funext fun y => congrArg (k0_pay5 (F := Ideal) (V c main_v0))
      (funext fun a => Fin.ext (win0_7.rect_emb_val_of_index_zero t a rfl y).symm)
  · show i ∈ ((View.whole main_v3_1).slice (win0_7.rect t0_0)).set
    rw [View.set_slice_whole, Rect.mem_set_unit]
    exact fun a => ⟨by show 0 * _ ≤ _; omega, by show _ < 0 * _ + _; have := (i a).isLt; rw [Nat.zero_mul, Nat.zero_add]; exact this⟩

theorem final0_8 : (dat0 V c).arrAt 8 cfg0.N
    = k0_pay6 (F := Ideal) (V c main_arg7) := by
  refine (dat0 V c).arrAt_eq_of_cover 8 _ (fun t _ => ?_) fun i => ⟨t0_0, flush0_8 _, ?_⟩
  · show (cfg0.win 8).cut (grid0.coords t) ((dat0 V c).after 8 t) = _
    rw [after0_8]
    unfold out0_8
    rw [View.canon_unit_zero zero2, View.ld_unit_zero zero2, in0_1]
    exact funext fun y => congrArg (k0_pay6 (F := Ideal) (V c main_arg7))
      (funext fun a => Fin.ext (win0_8.rect_emb_val_of_index_zero t a rfl y).symm)
  · show i ∈ ((View.whole main_v3_2).slice (win0_8.rect t0_0)).set
    rw [View.set_slice_whole, Rect.mem_set_unit]
    exact fun a => ⟨by show 0 * _ ≤ _; omega, by show _ < 0 * _ + _; have := (i a).isLt; rw [Nat.zero_mul, Nat.zero_add]; exact this⟩

theorem final0_9 : (dat0 V c).arrAt 9 cfg0.N
    = k0_pay1 (F := Ideal) (k0_pay7 (F := Ideal) (V c main_arg1) (V c main_v1)) (k0_pay9 (F := Ideal) (V c main_arg1)) (k0_pay10 (F := Ideal) (V c main_arg1)) := by
  refine (dat0 V c).arrAt_eq_of_cover 9 _ (fun t _ => ?_) fun i => ⟨t0_0, flush0_9 _, ?_⟩
  · show (cfg0.win 9).cut (grid0.coords t) ((dat0 V c).after 9 t) = _
    rw [after0_9]
    unfold out0_9
    rw [View.canon_unit_zero zero2, View.ld_unit_zero zero2, View.ld_unit_zero zero2, in0_2, in0_3]
    exact funext fun y => congrArg (k0_pay1 (F := Ideal) (k0_pay7 (F := Ideal) (V c main_arg1) (V c main_v1)) (k0_pay9 (F := Ideal) (V c main_arg1)) (k0_pay10 (F := Ideal) (V c main_arg1)))
      (funext fun a => Fin.ext (win0_9.rect_emb_val_of_index_zero t a rfl y).symm)
  · show i ∈ ((View.whole main_v3_3).slice (win0_9.rect t0_0)).set
    rw [View.set_slice_whole, Rect.mem_set_unit]
    exact fun a => ⟨by show 0 * _ ≤ _; omega, by show _ < 0 * _ + _; have := (i a).isLt; rw [Nat.zero_mul, Nat.zero_add]; exact this⟩

theorem final0_10 : (dat0 V c).arrAt 10 cfg0.N
    = k0_pay2 (F := Ideal) (V c main_arg4) (V c main_v2) := by
  refine (dat0 V c).arrAt_eq_of_cover 10 _ (fun t _ => ?_) fun i => ⟨t0_0, flush0_10 _, ?_⟩
  · show (cfg0.win 10).cut (grid0.coords t) ((dat0 V c).after 10 t) = _
    rw [after0_10]
    unfold out0_10
    rw [View.canon_unit_zero zero2, View.ld_unit_zero zero2, View.ld_unit_zero zero2, in0_4, in0_5]
    exact funext fun y => congrArg (k0_pay2 (F := Ideal) (V c main_arg4) (V c main_v2))
      (funext fun a => Fin.ext (win0_10.rect_emb_val_of_index_zero t a rfl y).symm)
  · show i ∈ ((View.whole main_v3_4).slice (win0_10.rect t0_0)).set
    rw [View.set_slice_whole, Rect.mem_set_unit]
    exact fun a => ⟨by show 0 * _ ≤ _; omega, by show _ < 0 * _ + _; have := (i a).isLt; rw [Nat.zero_mul, Nat.zero_add]; exact this⟩

end Cert.Proof.K

end
-- ==== Proof.KMainArr.lean ====
/-
  What the second launch leaves in its three arrays: point `t` writes batch `t / 8`, columns `512 · (t mod 8)` onwards.
-/
module

public import proofs.«01_k».proof.Proof.KMain
public import proofs.«01_k».proof.Proof.KPrepArr

@[expose] public section

noncomputable section

namespace Cert.Proof.K

open Idealize.ShloMosaic Idealize.ShloMosaic.TcCoe Idealize.ShloMosaic.ValueIdx Idealize.ShloMosaic.Pipeline
open Cert.KernelIdeal Cert.KernelIdeal.Gen
open scoped BigOperators

/-- The batch of a point. -/
def batch (t : Fin cfg1.N) : Fin 4 := ⟨t.val / 8, by have h : t.val < grid1.N := t.isLt; rw [N_1] at h; omega⟩
/-- A column of a point's block, in the array. -/
def column (t : Fin cfg1.N) (s : Fin 512) : Fin 4096 := ⟨t.val % 8 * 512 + s.val, by have := s.isLt; omega⟩

/-- Every batch and column is some point's. -/
theorem exists_point (b : Fin 4) (k : Fin 4096) : ∃ (t : Fin cfg1.N) (s : Fin 512), batch t = b ∧ column t s = k := by
  have hb := b.isLt
  have hk := k.isLt
  refine ⟨⟨b.val * 8 + k.val / 512, ?_⟩, ⟨k.val % 512, Nat.mod_lt _ (by decide)⟩, Fin.ext ?_, Fin.ext ?_⟩
  · show _ < grid1.N
    rw [N_1]; omega
  · show (b.val * 8 + k.val / 512) / 8 = b.val
    omega
  · show (b.val * 8 + k.val / 512) % 8 * 512 + k.val % 512 = k.val
    omega

theorem index1_0 (t : Fin grid1.N) : win1_0.index t 0 = t.val / 8 ∧ win1_0.index t 1 = 0 ∧ win1_0.index t 2 = t.val % 8 := by
  revert t; decide +kernel
theorem index1_8 (t : Fin grid1.N) : win1_8.index t 0 = t.val / 8 ∧ win1_8.index t 1 = 0 ∧ win1_8.index t 2 = t.val % 8 := by
  revert t; decide +kernel
theorem index1_9 (t : Fin grid1.N) : win1_9.index t 0 = t.val / 8 ∧ win1_9.index t 1 = 0 ∧ win1_9.index t 2 = t.val % 8 := by
  revert t; decide +kernel
theorem index1_10 (t : Fin grid1.N) : win1_10.index t 0 = t.val / 8 ∧ win1_10.index t 1 = 0 ∧ win1_10.index t 2 = t.val % 8 := by
  revert t; decide +kernel

/-- Where an element of a point's block sits in the array. -/
theorem place1_0 (t : Fin cfg1.N) (u : Fin 1) (k : Fin 1024) (s : Fin 512) :
    (win1_0.blk t).view.emb (ix3 u k s) = ix3 (batch t) k (column t s) := funext fun a => Fin.ext (by
  have e := index1_0 t
  refine (win1_0.rect_emb_val t (ix3 u k s) a).trans ?_
  match a with
  | ⟨0, _⟩ => show win1_0.index t 0 * 1 + u.val = t.val / 8; rw [e.1]; omega
  | ⟨1, _⟩ => show win1_0.index t 1 * 1024 + k.val = k.val; rw [e.2.1]; omega
  | ⟨2, _⟩ => show win1_0.index t 2 * 512 + s.val = t.val % 8 * 512 + s.val; rw [e.2.2])
theorem place1_8 (t : Fin cfg1.N) (u : Fin 1) (k : Fin 1024) (s : Fin 512) :
    (win1_8.blk t).view.emb (ix3 u k s) = ix3 (batch t) k (column t s) := funext fun a => Fin.ext (by
  have e := index1_8 t
  refine (win1_8.rect_emb_val t (ix3 u k s) a).trans ?_
  match a with
  | ⟨0, _⟩ => show win1_8.index t 0 * 1 + u.val = t.val / 8; rw [e.1]; omega
  | ⟨1, _⟩ => show win1_8.index t 1 * 1024 + k.val = k.val; rw [e.2.1]; omega
  | ⟨2, _⟩ => show win1_8.index t 2 * 512 + s.val = t.val % 8 * 512 + s.val; rw [e.2.2])
theorem place1_9 (t : Fin cfg1.N) (u : Fin 1) (k : Fin 1) (s : Fin 512) :
    (win1_9.blk t).view.emb (ix3 u k s) = ix3 (batch t) k (column t s) := funext fun a => Fin.ext (by
  have e := index1_9 t
  refine (win1_9.rect_emb_val t (ix3 u k s) a).trans ?_
  match a with
  | ⟨0, _⟩ => show win1_9.index t 0 * 1 + u.val = t.val / 8; rw [e.1]; omega
  | ⟨1, _⟩ => show win1_9.index t 1 * 1 + k.val = k.val; rw [e.2.1]; omega
  | ⟨2, _⟩ => show win1_9.index t 2 * 512 + s.val = t.val % 8 * 512 + s.val; rw [e.2.2])
theorem place1_10 (t : Fin cfg1.N) (u : Fin 1) (k : Fin 8) (s : Fin 512) :
    (win1_10.blk t).view.emb (ix3 u k s) = ix3 (batch t) k (column t s) := funext fun a => Fin.ext (by
  have e := index1_10 t
  refine (win1_10.rect_emb_val t (ix3 u k s) a).trans ?_
  match a with
  | ⟨0, _⟩ => show win1_10.index t 0 * 1 + u.val = t.val / 8; rw [e.1]; omega
  | ⟨1, _⟩ => show win1_10.index t 1 * 8 + k.val = k.val; rw [e.2.1]; omega
  | ⟨2, _⟩ => show win1_10.index t 2 * 512 + s.val = t.val % 8 * 512 + s.val; rw [e.2.2])

/-! ## What the launch computes, over the arrays it reads -/

section

variable (z : FVec Ideal S4x1024x4096 .f32) (w : FVec Ideal S8x1024 .bf16) (b : FVec Ideal S8x1 .f32)
  (cn : FVec Ideal S8x8192 .bf16) (cs : FVec Ideal S1x8192 .f32) (cb : FVec Ideal S8192x8 .bf16)
  (w' : FVec Ideal S1024x8 .bf16) (b' : FVec Ideal S1024x1 .f32)

/-- The projection in at a batch and column. -/
def encAt (n : Fin 4) (k : Fin 4096) (d : Fin 8) : EReal := (∑ i : Fin 1024, w (ix2 d i) * z (ix3 n i k)) + b (ix2 d 0)

/-- The scores of a row, over the prepared codes and their squares. -/
def scoreAt (x : Fin 8 → EReal) (j : Fin 8192) : EReal :=
  (∑ d : Fin 8, unitR x d * two * cn (ix2 d j)) - sqSum (unitR x) - cs (ix2 0 j)

/-- The best code of a row. -/
def bestAt (x : Fin 8 → EReal) : Fin 8192 := (pickTwo_spec (scoreAt cn cs x)).choose

theorem bestAt_best (x : Fin 8 → EReal) : IsBest (scoreAt cn cs x) (bestAt cn cs x) := (pickTwo_spec (scoreAt cn cs x)).choose_spec.1
theorem bestAt_word (x : Fin 8 → EReal) : pickTwo (scoreAt cn cs x) = BitVec.ofNat 32 (bestAt cn cs x).val :=
  (pickTwo_spec (scoreAt cn cs x)).choose_spec.2

/-- The projection back of a code. -/
def backAt (j : Fin 8192) (o : Fin 1024) : EReal := (∑ d : Fin 8, w' (ix2 o d) * cb (ix2 j d)) + b' (ix2 o 0)

/-! ## A point's blocks are those -/

variable (x : FVec Ideal S1x1024x512 .f32) (n : Fin 4) (k : Fin 512 → Fin 4096) (hx : ∀ i s, x (ix3 0 i s) = z (ix3 n i (k s)))

include hx

theorem enc_point (s : Fin 512) : enc x w b s = encAt z w b n (k s) := by
  funext d
  unfold enc encAt
  rw [enc_apply]
  exact congrArg (· + b (ix2 d 0)) (Finset.sum_congr rfl fun i _ => by rw [hx])

theorem encOut_point (u : Fin 1) (d : Fin 8) (s : Fin 512) : k1_pay3 (F := Ideal) x w b (ix3 u d s) = encAt z w b n (k s) d := by
  rw [← enc_point z w b x n k hx s]
  unfold k1_pay3
  rw [underUnit_apply]
  rfl

theorem score_point (s : Fin 512) :
    blockScore (k1_pay5 (F := Ideal) x w b cn) (k1_pay6 (F := Ideal) x w b) cs s = scoreAt cn cs (encAt z w b n (k s)) := by
  rw [← enc_point z w b x n k hx s]
  funext j
  unfold blockScore scoreAt
  rw [products_apply]
  have e : (∑ d : Fin 8, k1_pay6 (F := Ideal) x w b (ix2 d s)) = sqSum (unitR (enc x w b s)) :=
    Finset.sum_congr rfl fun d _ => squares_apply x w b d s
  rw [e]

theorem index_point (u u' : Fin 1) (s : Fin 512) :
    k1_pay8 (F := Ideal) (k1_pay5 (F := Ideal) x w b cn) (k1_pay6 (F := Ideal) x w b) cs (ix3 u u' s)
      = BitVec.ofNat 32 (bestAt cn cs (encAt z w b n (k s))).val := by
  rw [indexOut_apply, score_point z w b cn cs x n k hx s, bestAt_word]

theorem back_point (u : Fin 1) (o : Fin 1024) (s : Fin 512) :
    k1_pay1 (F := Ideal) (k1_pay9 (F := Ideal) (k1_pay5 (F := Ideal) x w b cn) (k1_pay6 (F := Ideal) x w b) cs)
        (k1_pay10 (F := Ideal) cb) (constant S512x8 .f32 0x00000000#32) w' b' (ix3 u o s)
      = backAt cb w' b' (bestAt cn cs (encAt z w b n (k s))) o := by
  rw [back_apply _ _ w' b' u o s (bestAt cn cs (encAt z w b n (k s))) fun j => mark_apply _ _ cs s _ j (by
    rw [index_apply, score_point z w b cn cs x n k hx s, bestAt_word])]
  unfold backAt k1_pay10
  rw [sameCast]

end

variable (V : (c : Dev nD) → (b : Ref sig .tc) → Buf (Elt Ideal) ((c : Thread nD τ).loc b)) (c : Dev nD)

/-! ## The blocks a point reads -/

theorem in1_0 (t : Fin cfg1.N) (u : Fin 1) (k : Fin 1024) (s : Fin 512) :
    iblk1 V c 0 t (ix3 u k s) = V c main_arg0 (ix3 (batch t) k (column t s)) := congrArg (V c main_arg0) (place1_0 t u k s)
theorem in1_1 (t : Fin cfg1.N) : iblk1 V c 1 t = V c main_v4 :=
  funext fun i => congrArg (V c main_v4) (funext fun a => Fin.ext (win1_1.rect_emb_val_of_index_zero t a (by fin_cases a <;> rfl) i))
theorem in1_2 (t : Fin cfg1.N) : iblk1 V c 2 t = V c main_v5 :=
  funext fun i => congrArg (V c main_v5) (funext fun a => Fin.ext (win1_2.rect_emb_val_of_index_zero t a (by fin_cases a <;> rfl) i))
theorem in1_3 (t : Fin cfg1.N) : iblk1 V c 3 t = V c main_v3_3 :=
  funext fun i => congrArg (V c main_v3_3) (funext fun a => Fin.ext (win1_3.rect_emb_val_of_index_zero t a (by fin_cases a <;> rfl) i))
theorem in1_4 (t : Fin cfg1.N) : iblk1 V c 4 t = V c main_v3_4 :=
  funext fun i => congrArg (V c main_v3_4) (funext fun a => Fin.ext (win1_4.rect_emb_val_of_index_zero t a (by fin_cases a <;> rfl) i))
theorem in1_5 (t : Fin cfg1.N) : iblk1 V c 5 t = V c main_v3_0 :=
  funext fun i => congrArg (V c main_v3_0) (funext fun a => Fin.ext (win1_5.rect_emb_val_of_index_zero t a (by fin_cases a <;> rfl) i))
theorem in1_6 (t : Fin cfg1.N) : iblk1 V c 6 t = V c main_v3_1 :=
  funext fun i => congrArg (V c main_v3_1) (funext fun a => Fin.ext (win1_6.rect_emb_val_of_index_zero t a (by fin_cases a <;> rfl) i))
theorem in1_7 (t : Fin cfg1.N) : iblk1 V c 7 t = V c main_v3_2 :=
  funext fun i => congrArg (V c main_v3_2) (funext fun a => Fin.ext (win1_7.rect_emb_val_of_index_zero t a (by fin_cases a <;> rfl) i))

/-! ## The arrays it leaves -/

theorem final1_10 (b : Fin 4) (d : Fin 8) (k : Fin 4096) :
    (dat1 V c).arrAt 10 cfg1.N (ix3 b d k) = encAt (V c main_arg0) (V c main_v3_3) (V c main_v4) b k d := by
  obtain ⟨t, s, rfl, rfl⟩ := exists_point b k
  let G : Buf (Elt Ideal) ((c : Thread nD τ).loc main_v6_2) := fun i : S4x8x4096.Idx =>
    encAt (V c main_arg0) (V c main_v3_3) (V c main_v4) (i 0) (i 2) (i 1)
  refine (dat1 V c).arrAt_apply_of_mem 10 G (fun t _ => ?_) cfg1.N t _ t.isLt (flush1_10 t) ?_
  · show (cfg1.win 10).cut (grid1.coords t) ((dat1 V c).after 10 t) = _
    rw [after1_10]
    unfold out1_10
    rw [View.canon_unit_zero zero3, View.ld_unit_zero zero3, View.ld_unit_zero zero2, View.ld_unit_zero zero2, in1_1, in1_3]
    refine funext fun (y : S1x8x512.Idx) => ?_
    obtain ⟨u, d, s, rfl⟩ : ∃ u d s, y = ix3 u d s := ⟨y 0, y 1, y 2, eq_ix3 y⟩
    refine Eq.trans ?_ (congrArg G (place1_10 t u d s)).symm
    exact encOut_point (V c main_arg0) (V c main_v3_3) (V c main_v4) (iblk1 V c 0 t) (batch t) (column t) (in1_0 V c t 0) u d s
  · rw [← place1_10 t 0 d s]
    exact View.emb_mem_set _ _

theorem final1_9 (b : Fin 4) (u : Fin 1) (k : Fin 4096) :
    (dat1 V c).arrAt 9 cfg1.N (ix3 b u k)
      = BitVec.ofNat 32 (bestAt (V c main_v3_0) (V c main_v3_1) (encAt (V c main_arg0) (V c main_v3_3) (V c main_v4) b k)).val := by
  obtain ⟨t, s, rfl, rfl⟩ := exists_point b k
  let G : Buf (Elt Ideal) ((c : Thread nD τ).loc main_v6_1) := fun i : S4x1x4096.Idx =>
    BitVec.ofNat 32 (bestAt (V c main_v3_0) (V c main_v3_1) (encAt (V c main_arg0) (V c main_v3_3) (V c main_v4) (i 0) (i 2))).val
  refine (dat1 V c).arrAt_apply_of_mem 9 G (fun t _ => ?_) cfg1.N t _ t.isLt (flush1_9 t) ?_
  · show (cfg1.win 9).cut (grid1.coords t) ((dat1 V c).after 9 t) = _
    rw [after1_9]
    unfold out1_9 k1_pay11 k1_pay12
    rw [View.canon_unit_zero zero3, View.ld_unit_zero zero3, View.ld_unit_zero zero2, View.ld_unit_zero zero2, View.ld_unit_zero zero2,
      View.ld_unit_zero zero2, in1_1, in1_3, in1_5, in1_6]
    refine funext fun (y : S1x1x512.Idx) => ?_
    obtain ⟨u, u', s, rfl⟩ : ∃ u u' s, y = ix3 u u' s := ⟨y 0, y 1, y 2, eq_ix3 y⟩
    refine Eq.trans ?_ (congrArg G (place1_9 t u u' s)).symm
    exact index_point (V c main_arg0) (V c main_v3_3) (V c main_v4) (V c main_v3_0) (V c main_v3_1) (iblk1 V c 0 t) (batch t) (column t)
      (in1_0 V c t 0) u u' s
  · rw [← place1_9 t 0 u s]
    exact View.emb_mem_set _ _

theorem final1_8 (b : Fin 4) (o : Fin 1024) (k : Fin 4096) :
    (dat1 V c).arrAt 8 cfg1.N (ix3 b o k)
      = backAt (V c main_v3_2) (V c main_v3_4) (V c main_v5)
        (bestAt (V c main_v3_0) (V c main_v3_1) (encAt (V c main_arg0) (V c main_v3_3) (V c main_v4) b k)) o := by
  obtain ⟨t, s, rfl, rfl⟩ := exists_point b k
  let G : Buf (Elt Ideal) ((c : Thread nD τ).loc main_v6_0) := fun i : S4x1024x4096.Idx =>
    backAt (V c main_v3_2) (V c main_v3_4) (V c main_v5)
      (bestAt (V c main_v3_0) (V c main_v3_1) (encAt (V c main_arg0) (V c main_v3_3) (V c main_v4) (i 0) (i 2))) (i 1)
  refine (dat1 V c).arrAt_apply_of_mem 8 G (fun t _ => ?_) cfg1.N t _ t.isLt (flush1_8 t) ?_
  · show (cfg1.win 8).cut (grid1.coords t) ((dat1 V c).after 8 t) = _
    rw [after1_8]
    unfold out1_8 k1_pay11 k1_pay12
    rw [View.canon_unit_zero zero3, View.ld_unit_zero zero3, View.ld_unit_zero zero2, View.ld_unit_zero zero2, View.ld_unit_zero zero2,
      View.ld_unit_zero zero2, View.ld_unit_zero zero2, View.ld_unit_zero zero2, View.ld_unit_zero zero2, in1_1, in1_2, in1_3, in1_4, in1_5, in1_6, in1_7]
    refine funext fun (y : S1x1024x512.Idx) => ?_
    obtain ⟨u, o, s, rfl⟩ : ∃ u o s, y = ix3 u o s := ⟨y 0, y 1, y 2, eq_ix3 y⟩
    refine Eq.trans ?_ (congrArg G (place1_8 t u o s)).symm
    exact back_point (V c main_arg0) (V c main_v3_3) (V c main_v4) (V c main_v3_0) (V c main_v3_1) (V c main_v3_2) (V c main_v3_4) (V c main_v5)
      (iblk1 V c 0 t) (batch t) (column t) (in1_0 V c t 0) u o s
  · rw [← place1_8 t 0 o s]
    exact View.emb_mem_set _ _

end Cert.Proof.K

end
-- ==== Proof.KValue.lean ====
/-
  The kernel's results as functions of its arguments: what the host lays out before each launch, what each launch leaves,
  and what the host does with the last one's arrays.
-/
module

public import proofs.«01_k».proof.Proof.KMainArr
public import proofs.«01_k».proof.Proof.Reads

@[expose] public section

noncomputable section

namespace Cert.Proof.K

open Idealize.ShloMosaic Idealize.ShloMosaic.TcCoe Idealize.ShloMosaic.ValueIdx Idealize.ShloMosaic.Pipeline
open Idealize.ShloMosaic.StableHlo Idealize.ShloMosaic.Tactic
open Cert.KernelIdeal Cert.KernelIdeal.Gen
open scoped BigOperators

/-! ## What the host's stretches leave -/

section Host

variable (V : Valuation τ sig (Elt Ideal))

/-- The codebook, a code per column. -/
def turned (cb : FVec Ideal S8192x8 .f32) : FVec Ideal S8x8192 .f32 := transpose S8x8192 [1, 0] cb transposes_S8192x8_S8x8192_1_0
/-- A short vector as a column. -/
def shortColumn (x : FVec Ideal S8 .f32) : FVec Ideal S8x1 .f32 := broadcastInDim S8x1 ![0] bcast_S8_S8x1_0 x
/-- A long vector as a column. -/
def longColumn (x : FVec Ideal S1024 .f32) : FVec Ideal S1024x1 .f32 := broadcastInDim S1024x1 ![0] bcast_S1024_S1024x1_0 x
/-- The losses: zero. -/
def noLoss : FVec Ideal S4 .f32 := broadcastInDim S4 ![] bcast_S_S4 (constant S_ .f32 0x00000000#32)

theorem turned_apply (cb : FVec Ideal S8192x8 .f32) (d : Fin 8) (k : Fin 8192) : turned cb (ix2 d k) = cb (ix2 k d) :=
  swap_apply transposes_S8192x8_S8x8192_1_0 cb d k
theorem shortColumn_apply (x : FVec Ideal S8 .f32) (o : Fin 8) : shortColumn x (ix2 o 0) = x (ix1 o) :=
  asColumn_apply bcast_S8_S8x1_0 x o 0
theorem longColumn_apply (x : FVec Ideal S1024 .f32) (o : Fin 1024) : longColumn x (ix2 o 0) = x (ix1 o) :=
  asColumn_apply bcast_S1024_S1024x1_0 x o 0

theorem host0_v0 : after hostOps0 V (Proc.devRef .tc main_v0) = turned (V (Proc.devRef .tc main_arg7)) := by
  unfold hostOps0
  after_results_simp
  try simp -implicitDefEqProofs only [StableHlo.TRef.toBuf, StableHlo.TRef.ofBuf, cast_cast, cast_eq]
  unfold turned
  with_reducible rfl
theorem host0_v1 : after hostOps0 V (Proc.devRef .tc main_v1) = shortColumn (V (Proc.devRef .tc main_arg2)) := by
  unfold hostOps0
  after_results_simp
  try simp -implicitDefEqProofs only [StableHlo.TRef.toBuf, StableHlo.TRef.ofBuf, cast_cast, cast_eq]
  unfold shortColumn
  with_reducible rfl
theorem host0_v2 : after hostOps0 V (Proc.devRef .tc main_v2) = longColumn (V (Proc.devRef .tc main_arg5)) := by
  unfold hostOps0
  after_results_simp
  try simp -implicitDefEqProofs only [StableHlo.TRef.toBuf, StableHlo.TRef.ofBuf, cast_cast, cast_eq]
  unfold longColumn
  with_reducible rfl
theorem host1_v4 : after hostOps1 V (Proc.devRef .tc main_v4) = shortColumn (V (Proc.devRef .tc main_arg3)) := by
  unfold hostOps1
  after_results_simp
  try simp -implicitDefEqProofs only [StableHlo.TRef.toBuf, StableHlo.TRef.ofBuf, cast_cast, cast_eq]
  unfold shortColumn
  with_reducible rfl
theorem host1_v5 : after hostOps1 V (Proc.devRef .tc main_v5) = longColumn (V (Proc.devRef .tc main_arg6)) := by
  unfold hostOps1
  after_results_simp
  try simp -implicitDefEqProofs only [StableHlo.TRef.toBuf, StableHlo.TRef.ofBuf, cast_cast, cast_eq]
  unfold longColumn
  with_reducible rfl
theorem host2_v8 : after hostOps2 V (Proc.devRef .tc main_v8) = noLoss := by
  unfold hostOps2
  after_results_simp
  try simp -implicitDefEqProofs only [StableHlo.TRef.toBuf, StableHlo.TRef.ofBuf, cast_cast, cast_eq]
  unfold noLoss
  with_reducible rfl
theorem host2_v7 : after hostOps2 V (Proc.devRef .tc main_v7)
    = shapeCast S4x4096 (V (Proc.devRef .tc main_v6_1)) shapeCasts_S4x1x4096_S4x4096 := by
  unfold hostOps2
  after_results_simp
  rfl

/-- The indices without their axis of length one. -/
theorem flattened_apply (x : IVec S4x1x4096 32) (b : Fin 4) (k : Fin 4096) :
    shapeCast S4x4096 x shapeCasts_S4x1x4096_S4x4096 (ix2 b k) = x (ix3 b 0 k) :=
  shapeCast_apply x _ _ _ (by
    rw [Shape.rowMajor_val_three, Shape.rowMajor_val_two]
    show (b.val * 1 + 0) * 4096 + k.val = b.val * 4096 + k.val
    omega)

end Host

/-! ## The prepared arrays, from the arguments -/

/-- The codes over their norms, a code per column. -/
def codeArr (cb : FVec Ideal S8192x8 .f32) : FVec Ideal S8x8192 .bf16 := k0_pay4 (F := Ideal) (turned cb)
/-- The squares of those. -/
def squareArr (cb : FVec Ideal S8192x8 .f32) : FVec Ideal S1x8192 .f32 := k0_pay5 (F := Ideal) (turned cb)
/-- The weights of the projection in. -/
def inArr (v : FVec Ideal S8x1024 .f32) (g : FVec Ideal S8 .f32) : FVec Ideal S8x1024 .bf16 :=
  k0_pay1 (F := Ideal) (k0_pay7 (F := Ideal) v (shortColumn g)) (k0_pay9 (F := Ideal) v) (k0_pay10 (F := Ideal) v)
/-- The weights of the projection back. -/
def outArr (v : FVec Ideal S1024x8 .f32) (g : FVec Ideal S1024 .f32) : FVec Ideal S1024x8 .bf16 :=
  k0_pay2 (F := Ideal) v (longColumn g)

theorem codeArr_apply (cb : FVec Ideal S8192x8 .f32) (d : Fin 8) (k : Fin 8192) :
    codeArr cb (ix2 d k) = unitR (fun d : Fin 8 => cb (ix2 k d)) d := by
  unfold codeArr
  rw [code_cast]
  exact congrArg (unitR · d) (funext fun e => turned_apply cb e k)
theorem squareArr_apply (cb : FVec Ideal S8192x8 .f32) (k : Fin 8192) :
    squareArr cb (ix2 0 k) = sqSum (unitR fun d : Fin 8 => cb (ix2 k d)) := by
  unfold squareArr
  rw [codeSq_apply]
  exact congrArg (fun x => sqSum (unitR x)) (funext fun e => turned_apply cb e k)
theorem inArr_apply (v : FVec Ideal S8x1024 .f32) (g : FVec Ideal S8 .f32) (o : Fin 8) (k : Fin 1024) :
    inArr v g (ix2 o k) = weightR (g (ix1 o)) (fun k => v (ix2 o k)) k := by
  unfold inArr
  rw [inWeight_apply, shortColumn_apply]
theorem outArr_apply (v : FVec Ideal S1024x8 .f32) (g : FVec Ideal S1024 .f32) (o : Fin 1024) (k : Fin 8) :
    outArr v g (ix2 o k) = weightR (g (ix1 o)) (fun k => v (ix2 o k)) k := by
  unfold outArr
  rw [outWeight_apply, longColumn_apply]

/-! ## The arrays that the second launch reads -/

section Run

variable (m : (ℓ : Loc nD τ sig) → Buf (Elt Ideal) ℓ) (ρ : Dev nD → PrngReg) (c : Dev nD)

/-- An argument as launched. -/
abbrev arg (b : Ref sig .tc) : Buf (Elt Ideal) ((c : Thread nD τ).loc b) := m ((c : Thread nD τ).loc b)

theorem V3_arg0 : V3 m ρ c main_arg0 = arg m c main_arg0 := W3_args m ρ c main_arg0 (by decide)
theorem V3_v4 : V3 m ρ c main_v4 = shortColumn (arg m c main_arg3) :=
  (host1_v4 _).trans (congrArg shortColumn (W2_args m ρ c main_arg3 (by decide)))
theorem V3_v5 : V3 m ρ c main_v5 = longColumn (arg m c main_arg6) :=
  (host1_v5 _).trans (congrArg longColumn (W2_args m ρ c main_arg6 (by decide)))

theorem V1_v0 : V1 m ρ c main_v0 = turned (arg m c main_arg7) := host0_v0 _
theorem V1_v1 : V1 m ρ c main_v1 = shortColumn (arg m c main_arg2) := host0_v1 _
theorem V1_v2 : V1 m ρ c main_v2 = longColumn (arg m c main_arg5) := host0_v2 _
theorem V1_arg1 : V1 m ρ c main_arg1 = arg m c main_arg1 := W1_args m ρ c main_arg1 (by decide)
theorem V1_arg4 : V1 m ρ c main_arg4 = arg m c main_arg4 := W1_args m ρ c main_arg4 (by decide)
theorem V1_arg7 : V1 m ρ c main_arg7 = arg m c main_arg7 := W1_args m ρ c main_arg7 (by decide)

theorem V3_v3_0 : V3 m ρ c main_v3_0 = codeArr (arg m c main_arg7) :=
  (W3_of m ρ c main_v3_0 (by decide)).trans <| (W2_arr m ρ c 6).trans <| (final0_6 (V1 m ρ) c).trans
    (congrArg (k0_pay4 (F := Ideal)) (V1_v0 m ρ c))
theorem V3_v3_1 : V3 m ρ c main_v3_1 = squareArr (arg m c main_arg7) :=
  (W3_of m ρ c main_v3_1 (by decide)).trans <| (W2_arr m ρ c 7).trans <| (final0_7 (V1 m ρ) c).trans
    (congrArg (k0_pay5 (F := Ideal)) (V1_v0 m ρ c))
theorem V3_v3_2 : V3 m ρ c main_v3_2 = arg m c main_arg7 :=
  (W3_of m ρ c main_v3_2 (by decide)).trans <| (W2_arr m ρ c 8).trans <| (final0_8 (V1 m ρ) c).trans
    ((congrArg (k0_pay6 (F := Ideal)) (V1_arg7 m ρ c)).trans (funext fun i => codes_apply _ i))
theorem V3_v3_3 : V3 m ρ c main_v3_3 = inArr (arg m c main_arg1) (arg m c main_arg2) :=
  (W3_of m ρ c main_v3_3 (by decide)).trans <| (W2_arr m ρ c 9).trans <| (final0_9 (V1 m ρ) c).trans
    (congrArg₂ (fun v g => k0_pay1 (F := Ideal) (k0_pay7 (F := Ideal) v g) (k0_pay9 (F := Ideal) v) (k0_pay10 (F := Ideal) v)) (V1_arg1 m ρ c) (V1_v1 m ρ c))
theorem V3_v3_4 : V3 m ρ c main_v3_4 = outArr (arg m c main_arg4) (arg m c main_arg5) :=
  (W3_of m ρ c main_v3_4 (by decide)).trans <| (W2_arr m ρ c 10).trans <| (final0_10 (V1 m ρ) c).trans
    (congrArg₂ (k0_pay2 (F := Ideal)) (V1_arg4 m ρ c) (V1_v2 m ρ c))

/-! ## The results -/

/-- A column's projection in, from the arguments. -/
def encOf (n : Fin 4) (k : Fin 4096) (d : Fin 8) : EReal :=
  encAt (arg m c main_arg0) (inArr (arg m c main_arg1) (arg m c main_arg2)) (shortColumn (arg m c main_arg3)) n k d
/-- The code chosen for a column, from the arguments. -/
def codeOf (n : Fin 4) (k : Fin 4096) : Fin 8192 :=
  bestAt (codeArr (arg m c main_arg7)) (squareArr (arg m c main_arg7)) (encOf m c n k)

theorem result_enc (b : Fin 4) (d : Fin 8) (k : Fin 4096) :
    W5 m ρ c (Proc.devRef .tc main_v6_2) (ix3 b d k) = encOf m c b k d := by
  refine (congrFun ((W5_of m ρ c main_v6_2 (by decide)).trans (W4_arr m ρ c 10)) (ix3 b d k)).trans
    ((final1_10 (V3 m ρ) c b d k).trans ?_)
  unfold encOf
  rw [V3_arg0, V3_v3_3, V3_v4]

theorem result_index (b : Fin 4) (k : Fin 4096) :
    W5 m ρ c (Proc.devRef .tc main_v7) (ix2 b k) = BitVec.ofNat 32 (codeOf m c b k).val := by
  refine (congrFun (host2_v7 (W4 m ρ c)) (ix2 b k)).trans ((flattened_apply _ b k).trans
    ((congrFun (W4_arr m ρ c 9) (ix3 b 0 k)).trans ((final1_9 (V3 m ρ) c b 0 k).trans ?_)))
  unfold codeOf encOf
  rw [V3_arg0, V3_v3_3, V3_v4, V3_v3_0, V3_v3_1]

theorem result_back (b : Fin 4) (o : Fin 1024) (k : Fin 4096) :
    W5 m ρ c (Proc.devRef .tc main_v6_0) (ix3 b o k)
      = backAt (arg m c main_arg7) (outArr (arg m c main_arg4) (arg m c main_arg5)) (longColumn (arg m c main_arg6)) (codeOf m c b k) o := by
  refine (congrFun ((W5_of m ρ c main_v6_0 (by decide)).trans (W4_arr m ρ c 8)) (ix3 b o k)).trans
    ((final1_8 (V3 m ρ) c b o k).trans ?_)
  unfold codeOf encOf
  rw [V3_arg0, V3_v3_3, V3_v4, V3_v3_0, V3_v3_1, V3_v3_2, V3_v3_4, V3_v5]

theorem result_loss : W5 m ρ c (Proc.devRef .tc main_v8) = noLoss := host2_v8 _

end Run

end Cert.Proof.K

end
-- ==== Proof.RefEnc.lean ====
/-
  The reference's projection in and projection back, read at an index.
-/
module

public import proofs.«01_k».proof.Proof.RefRun
public import proofs.«01_k».proof.Proof.Reads

@[expose] public section

noncomputable section

namespace Cert.Proof.Ref

open Idealize.ShloMosaic Idealize.ShloMosaic.ValueIdx
open Cert.ReferenceIdeal Cert.ReferenceIdeal.Facts₀ Cert.ReferenceIdeal.Facts

theorem weightIn_apply (v : FVec Ideal S8x1024 .f32) (g : FVec Ideal S8 .f32) (o : Fin 8) (k : Fin 1024) :
    weightIn v g (ix2 o k) = weight (g (ix1 o)) (fun k => v (ix2 o k)) k := by
  unfold weightIn
  rw [hostDivf_apply, mulf_apply, columns_apply, asColumn_apply, columns_apply, hostSqrt_apply, asColumn_apply,
    rowSum_apply _ (by decide)]
  rfl

theorem weightOut_apply (v : FVec Ideal S1024x8 .f32) (g : FVec Ideal S1024 .f32) (o : Fin 1024) (k : Fin 8) :
    weightOut v g (ix2 o k) = weight (g (ix1 o)) (fun k => v (ix2 o k)) k := by
  unfold weightOut
  rw [hostDivf_apply, mulf_apply, columns_apply, asColumn_apply, columns_apply, hostSqrt_apply, asColumn_apply,
    rowSum_apply _ (by decide)]
  rfl

/-- The product that contracts the channels of the input. -/
theorem dotIn_apply (A : FVec Ideal S4x1024x4096 .f32) (B : FVec Ideal S8x1024 .f32) (b : Fin 4) (t : Fin 4096) (o : Fin 8) :
    Host.dotGeneral dot_S4x1024x4096_S8x1024_S4x4096x8_1_1_02_0_n_n none A B (ix3 b t o)
      = ∑ k : Fin 1024, A (ix3 b k t) * B (ix2 o k) := by
  show FloatOps.dotGeneral _ none _ A B (ix3 b t o) = _
  rw [Ideal.dotGeneral_apply, ← Equiv.sum_comp (contrEquiv1 dot_S4x1024x4096_S8x1024_S4x4096x8_1_1_02_0_n_n 1024 rfl rfl).symm]
  refine Finset.sum_congr rfl fun k _ => ?_
  have hk := contrEquiv1_symm_val dot_S4x1024x4096_S8x1024_S4x4096x8_1_1_02_0_n_n 1024 rfl rfl k
  congr 1
  · refine congrArg A (funext fun a => Fin.ext ?_)
    match a with
    | ⟨0, _⟩ => simp [DotDims.lhsIdx, dot_S4x1024x4096_S8x1024_S4x4096x8_1_1_02_0_n_n]; rfl
    | ⟨1, _⟩ => simp [DotDims.lhsIdx, dot_S4x1024x4096_S8x1024_S4x4096x8_1_1_02_0_n_n]; exact hk
    | ⟨2, _⟩ => simp [DotDims.lhsIdx, dot_S4x1024x4096_S8x1024_S4x4096x8_1_1_02_0_n_n]; rfl
  · refine congrArg B (funext fun a => Fin.ext ?_)
    match a with
    | ⟨0, _⟩ => simp [DotDims.rhsIdx, dot_S4x1024x4096_S8x1024_S4x4096x8_1_1_02_0_n_n]; rfl
    | ⟨1, _⟩ => simp [DotDims.rhsIdx, dot_S4x1024x4096_S8x1024_S4x4096x8_1_1_02_0_n_n]; exact hk

/-- The product that contracts the code's coordinates. -/
theorem dotOut_apply (A : FVec Ideal S4x8x4096 .f32) (B : FVec Ideal S1024x8 .f32) (b : Fin 4) (t : Fin 4096) (o : Fin 1024) :
    Host.dotGeneral dot_S4x8x4096_S1024x8_S4x4096x1024_1_1_02_0_n_n none A B (ix3 b t o)
      = ∑ k : Fin 8, A (ix3 b k t) * B (ix2 o k) := by
  show FloatOps.dotGeneral _ none _ A B (ix3 b t o) = _
  rw [Ideal.dotGeneral_apply, ← Equiv.sum_comp (contrEquiv1 dot_S4x8x4096_S1024x8_S4x4096x1024_1_1_02_0_n_n 8 rfl rfl).symm]
  refine Finset.sum_congr rfl fun k _ => ?_
  have hk := contrEquiv1_symm_val dot_S4x8x4096_S1024x8_S4x4096x1024_1_1_02_0_n_n 8 rfl rfl k
  congr 1
  · refine congrArg A (funext fun a => Fin.ext ?_)
    match a with
    | ⟨0, _⟩ => simp [DotDims.lhsIdx, dot_S4x8x4096_S1024x8_S4x4096x1024_1_1_02_0_n_n]; rfl
    | ⟨1, _⟩ => simp [DotDims.lhsIdx, dot_S4x8x4096_S1024x8_S4x4096x1024_1_1_02_0_n_n]; exact hk
    | ⟨2, _⟩ => simp [DotDims.lhsIdx, dot_S4x8x4096_S1024x8_S4x4096x1024_1_1_02_0_n_n]; rfl
  · refine congrArg B (funext fun a => Fin.ext ?_)
    match a with
    | ⟨0, _⟩ => simp [DotDims.rhsIdx, dot_S4x8x4096_S1024x8_S4x4096x1024_1_1_02_0_n_n]; rfl
    | ⟨1, _⟩ => simp [DotDims.rhsIdx, dot_S4x8x4096_S1024x8_S4x4096x1024_1_1_02_0_n_n]; exact hk

/-- `z_e` at an index: the weighted sum of the channels, plus the bias. -/
theorem ze_apply (z : FVec Ideal S4x1024x4096 .f32) (v : FVec Ideal S8x1024 .f32) (g b : FVec Ideal S8 .f32)
    (n : Fin 4) (o : Fin 8) (t : Fin 4096) :
    ze z v g b (ix3 n o t) = (∑ k : Fin 1024, weight (g (ix1 o)) (fun k => v (ix2 o k)) k * z (ix3 n k t)) + b (ix1 o) := by
  unfold ze
  rw [addf_apply, swapLast_apply, dotIn_apply, middle_apply]
  refine congrArg (· + b (ix1 o)) (Finset.sum_congr rfl fun k _ => ?_)
  rw [weightIn_apply, mul_comm]

/-- The projection back at an index. -/
theorem out_apply (q : FVec Ideal S4x8x4096 .f32) (v : FVec Ideal S1024x8 .f32) (g b : FVec Ideal S1024 .f32)
    (n : Fin 4) (o : Fin 1024) (t : Fin 4096) :
    out q v g b (ix3 n o t) = (∑ k : Fin 8, weight (g (ix1 o)) (fun k => v (ix2 o k)) k * q (ix3 n k t)) + b (ix1 o) := by
  unfold out
  rw [addf_apply, swapLast_apply, dotOut_apply, middle_apply]
  refine congrArg (· + b (ix1 o)) (Finset.sum_congr rfl fun k _ => ?_)
  rw [weightOut_apply, mul_comm]

end Cert.Proof.Ref

end
-- ==== Proof.RefTake.lean ====
/-
  The reference's look-up of the codes, read at an index: at an index inside the codebook it is the code there, and so is
  `z_e + (code - z_e)` where `z_e` is real.
-/
module

public import proofs.«01_k».proof.Proof.RefRun
public import proofs.«01_k».proof.Proof.Reads
public import proofs.«01_k».proof.Proof.Best
public import Idealize.ShloMosaic.Lib.ReduceAll

@[expose] public section

noncomputable section

namespace Cert.Proof.Ref

open Idealize.ShloMosaic Idealize.ShloMosaic.ValueIdx
open Cert.ReferenceIdeal Cert.ReferenceIdeal.Facts₀ Cert.ReferenceIdeal.Facts

/-- Comparisons of words that fail. -/
theorem not_slt {x y : BitVec 32} (h : ¬ x.toInt < y.toInt) : IntOp.cmpi .slt x y = 0#1 := by
  rcases BitVec.eq_zero_or_eq_one (IntOp.cmpi .slt x y) with e | e
  · exact e
  · exact absurd (IntOp.cmpi_slt.mp e) h

/-- A word that is not negative is not wrapped. -/
theorem wrapped_apply (i : IVec S4x4096 32) (b : Fin 4) (t : Fin 4096) (u : Fin 1) (h : 0 ≤ (i (ix2 b t)).toInt) :
    wrapped i (ix3 b t u) = i (ix2 b t) := by
  unfold wrapped
  rw [broadcastInDim_apply _ _ _ _ (ix2 b t) fun a => match a with | ⟨0, _⟩ => rfl | ⟨1, _⟩ => rfl, select_apply]
  have e : cmpi .slt i (broadcastInDim S4x4096 ![] bcast_S_S4x4096 (constantI S_ 32 0#32)) (ix2 b t) = 0#1 :=
    not_slt (by
      show ¬ (i (ix2 b t)).toInt < (0#32 : BitVec 32).toInt
      rw [show (0#32 : BitVec 32).toInt = 0 from by decide]; exact not_lt.mpr h)
  rw [e, select_zero]

/-- Where every word of the one index vector lies inside the codebook, the test holds. -/
theorem inside_apply (w : IVec S4x4096x1 32) (j : S4x4096.Idx) (h : ∀ b t u, 0 ≤ (w (ix3 b t u)).toInt ∧ (w (ix3 b t u)).toInt ≤ 8191) : inside w j = 1#1 := by
  unfold inside
  refine Host.reduce_andi_one _ _ _ _ _ rfl fun y => ?_
  have h : 0 ≤ (w y).toInt ∧ (w y).toInt ≤ 8191 := (congrArg (fun q => 0 ≤ (w q).toInt ∧ (w q).toInt ≤ 8191) (eq_ix3 y)).mpr (h (y 0) (y 1) (y 2))
  refine IntOp.andi_eq_one.mpr ⟨IntOp.cmpi_sge.mpr ?_, IntOp.cmpi_sle.mpr ?_⟩
  · exact (show ((0#32 : BitVec 32).toInt : ℤ) = 0 from by decide).le.trans h.1
  · exact h.2.trans (show (8191 : ℤ) = (8191#32 : BitVec 32).toInt from by decide).le

/-- The gather at an index: the row the word names, held to the codebook. -/
theorem gather_apply (x : FVec Ideal S8192x8 .f32) (w : IVec S4x4096x1 32) (b : Fin 4) (t : Fin 4096) (d : Fin 8)
    (j : Fin 8192) (h : (w (ix3 b t 0)).toInt = j.val) :
    Host.gather gather_S8192x8_S4x4096x1_S4x4096x8_2_0_n_n_0_2_18 x w (ix3 b t d) = x (ix2 j d) := by
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil, Nat.add_zero]
  have hj := j.isLt
  match a with
  | ⟨0, _⟩ =>
    rw [GatherDims.offCoord_eq_zero _ _ _ fun h => ((GatherDims.mem_sKept _ _).mp h).1 (List.mem_singleton.mpr rfl), Nat.add_zero]
    unfold GatherDims.start
    rw [dif_pos (show (⟨0, by decide⟩ : Fin S8192x8.rank) ∈ gather_S8192x8_S4x4096x1_S4x4096x8_2_0_n_n_0_2_18.startIndexMap from
      List.mem_singleton.mpr rfl)]
    refine Eq.trans (b := min (w (ix3 b t 0)).toInt.toNat 8191) ?_ ?_
    · refine congrArg (fun y => min (w y).toInt.toNat 8191) (funext fun c => Fin.ext ?_)
      match c with
      | ⟨0, _⟩ => rfl
      | ⟨1, _⟩ => rfl
      | ⟨2, _⟩ => rfl
    · rw [h]
      show min (Int.toNat (j.val : ℤ)) 8191 = j.val
      omega
  | ⟨1, _⟩ =>
    unfold GatherDims.start
    rw [dif_neg (by simp [gather_S8192x8_S4x4096x1_S4x4096x8_2_0_n_n_0_2_18]), Nat.zero_add]
    rfl

/-- The look-up, where every index lies inside the codebook. -/
theorem taken_apply (cb : FVec Ideal S8192x8 .f32) (i : IVec S4x4096 32) (f : Fin 4 → Fin 4096 → Fin 8192)
    (h : ∀ b t, i (ix2 b t) = BitVec.ofNat 32 (f b t).val) (b : Fin 4) (t : Fin 4096) (d : Fin 8) :
    taken cb i (ix3 b t d) = cb (ix2 (f b t) d) := by
  have hi : ∀ b t, (i (ix2 b t)).toInt = (f b t).val := fun b t => by
    rw [h]; exact word_toInt _ (by have := (f b t).isLt; omega)
  have hw : ∀ b t (u : Fin 1), (wrapped i (ix3 b t u)).toInt = (f b t).val := fun b t u => by
    rw [wrapped_apply i b t u (by have := hi b t; omega)]; exact hi _ _
  unfold taken
  rw [select_apply, broadcastInDim_apply _ _ _ _ (ix2 b t) fun a => match a with | ⟨0, _⟩ => rfl | ⟨1, _⟩ => rfl,
    inside_apply _ _ fun b t u => by have := hw b t u; have := (f b t).isLt; omega, select_one]
  exact gather_apply cb _ b t d (f b t) (hw b t 0)

/-- `z_e` moved to its code, where it is real, is the code. -/
theorem zq_apply (e : FVec Ideal S4x8x4096 .f32) (cb : FVec Ideal S8192x8 .f32) (i : IVec S4x4096 32) (f : Fin 4 → Fin 4096 → Fin 8192)
    (h : ∀ b t, i (ix2 b t) = BitVec.ofNat 32 (f b t).val) (b : Fin 4) (d : Fin 8) (t : Fin 4096) (he : IsReal (e (ix3 b d t))) :
    zq e cb i (ix3 b d t) = cb (ix2 (f b t) d) := by
  unfold zq
  rw [addf_apply, subf_apply, swapLast_apply, taken_apply cb i f h]
  exact add_sub_real he

end Cert.Proof.Ref

end
-- ==== Proof.RefBest.lean ====
/-
  The reference's search, read at an index: its score of a column of `z_e` against a code is the negated squared distance of
  the two over their norms, and the index it returns is the lowest one at which that score is greatest.
-/
module

public import proofs.«01_k».proof.Proof.RefRun
public import proofs.«01_k».proof.Proof.Reads
public import proofs.«01_k».proof.Proof.Best
public import Idealize.ShloMosaic.Lib.Affine

@[expose] public section

noncomputable section

namespace Cert.Proof.Ref

open Idealize.ShloMosaic Idealize.ShloMosaic.ValueIdx
open Cert.ReferenceIdeal Cert.ReferenceIdeal.Facts₀ Cert.ReferenceIdeal.Facts

/-- The row that column `(b, t)` becomes. -/
def flat (b : Fin 4) (t : Fin 4096) : Fin 16384 := ⟨b.val * 4096 + t.val, by have := b.isLt; have := t.isLt; omega⟩

theorem rows_apply (e : FVec Ideal S4x8x4096 .f32) (b : Fin 4) (t : Fin 4096) (d : Fin 8) :
    rows e (ix2 (flat b t) d) = e (ix3 b d t) := by
  unfold rows
  rw [shapeCast_apply _ _ _ (ix3 b t d) ?_, swapLast_apply]
  rw [Shape.rowMajor_val_three, Shape.rowMajor_val_two]
  rfl

theorem normRows_apply (x : FVec Ideal S16384x8 .f32) (r : Fin 16384) (d : Fin 8) :
    normRows x (ix2 r d) = unit (fun d => x (ix2 r d)) d := by
  unfold normRows
  rw [hostDivf_apply, columns_apply, maximumf_apply, hostSqrt_apply, asColumn_apply, rowSum_apply _ (by decide),
    broadcastInDim_scalar_apply]
  rfl

theorem normCodes_apply (x : FVec Ideal S8192x8 .f32) (r : Fin 8192) (d : Fin 8) :
    normCodes x (ix2 r d) = unit (fun d => x (ix2 r d)) d := by
  unfold normCodes
  rw [hostDivf_apply, columns_apply, maximumf_apply, hostSqrt_apply, asColumn_apply, rowSum_apply _ (by decide),
    broadcastInDim_scalar_apply]
  rfl

/-- The product of the rows by the transposed codes. -/
theorem dotScore_apply (A : FVec Ideal S16384x8 .f32) (B : FVec Ideal S8x8192 .f32) (r : Fin 16384) (k : Fin 8192) :
    Host.dotGeneral dot_S16384x8_S8x8192_S16384x8192_1_0_0_1_n_n none A B (ix2 r k) = ∑ d : Fin 8, A (ix2 r d) * B (ix2 d k) := by
  show FloatOps.dotGeneral _ none _ A B (ix2 r k) = _
  rw [Ideal.dotGeneral_apply, ← Equiv.sum_comp (contrEquiv1 dot_S16384x8_S8x8192_S16384x8192_1_0_0_1_n_n 8 rfl rfl).symm]
  refine Finset.sum_congr rfl fun d _ => ?_
  have hd := contrEquiv1_symm_val dot_S16384x8_S8x8192_S16384x8192_1_0_0_1_n_n 8 rfl rfl d
  congr 1
  · refine congrArg A (funext fun a => Fin.ext ?_)
    match a with
    | ⟨0, _⟩ => simp [DotDims.lhsIdx, dot_S16384x8_S8x8192_S16384x8192_1_0_0_1_n_n]; rfl
    | ⟨1, _⟩ => simp [DotDims.lhsIdx, dot_S16384x8_S8x8192_S16384x8192_1_0_0_1_n_n]; exact hd
  · refine congrArg B (funext fun a => Fin.ext ?_)
    match a with
    | ⟨0, _⟩ => simp [DotDims.rhsIdx, dot_S16384x8_S8x8192_S16384x8192_1_0_0_1_n_n]; exact hd
    | ⟨1, _⟩ => simp [DotDims.rhsIdx, dot_S16384x8_S8x8192_S16384x8192_1_0_0_1_n_n]; rfl

theorem scores_apply (x : FVec Ideal S16384x8 .f32) (c : FVec Ideal S8192x8 .f32) (r : Fin 16384) (k : Fin 8192) :
    scores x c (ix2 r k) = -(((∑ d : Fin 8, x (ix2 r d) * x (ix2 r d)) - ∑ d : Fin 8, two * x (ix2 r d) * c (ix2 k d))
      + ∑ d : Fin 8, c (ix2 k d) * c (ix2 k d)) := by
  unfold scores
  rw [hostNegf_apply, addf_apply, subf_apply, columns_apply, asColumn_apply, rowSum_apply _ (by decide), dotScore_apply,
    repeatRow_apply, swap_apply, asColumn_apply, rowSum_apply _ (by decide)]
  have e : ∀ d : Fin 8, mulf (broadcastInDim S16384x8 ![] bcast_S_S16384x8 (constant S_ .f32 0x40000000#32)) x (ix2 r d)
      * transpose S8x8192 [1, 0] c transposes_S8192x8_S8x8192_1_0 (ix2 d k) = two * x (ix2 r d) * c (ix2 k d) := fun d => by
    rw [swap_apply, mulf_apply, broadcastInDim_scalar_apply]; rfl
  simp only [mulf_apply] at e ⊢
  simp only [e]

/-- The step of the search returns the better of its two pairs. -/
theorem step_beats (a b : EReal × BitVec 32) :
    (reducer_argmax_f32_i32 (F := Ideal) a b = a ∧ Beats a b) ∨ (reducer_argmax_f32_i32 (F := Ideal) a b = b ∧ Beats b a) := by
  obtain ⟨x, i⟩ := a
  obtain ⟨y, j⟩ := b
  have hstep : reducer_argmax_f32_i32 (F := Ideal) (x, i) (y, j)
      = (if y < x then x else y, if y < x ∨ (x = y ∧ i.toInt < j.toInt) then i else j) := by
    have e1 : Ideal.cmp .ogt x y = if y < x then 1#1 else 0#1 := by by_cases h : y < x <;> simp [Ideal.cmp, h]
    have e2 : Ideal.cmp .une x x = 0#1 := by simp [Ideal.cmp]
    have e3 : Ideal.cmp .oeq x y = if x = y then 1#1 else 0#1 := by by_cases h : x = y <;> simp [Ideal.cmp, h]
    have e4 : IntOp.cmpi .slt i j = if i.toInt < j.toInt then 1#1 else 0#1 := by
      by_cases h : i.toInt < j.toInt
      · rw [if_pos h]; exact IntOp.cmpi_slt.mpr h
      · rw [if_neg h]
        rcases BitVec.eq_zero_or_eq_one (IntOp.cmpi .slt i j) with e | e
        · exact e
        · exact absurd (IntOp.cmpi_slt.mp e) h
    show (Scalar.select (IntOp.ori (Ideal.cmp .ogt x y) (Ideal.cmp .une x x)) x y,
      Scalar.select (IntOp.ori (IntOp.ori (Ideal.cmp .ogt x y) (Ideal.cmp .une x x)) (IntOp.andi (Ideal.cmp .oeq x y) (IntOp.cmpi .slt i j))) i j) = _
    rw [e1, e2, e3, e4]
    by_cases h1 : y < x <;> by_cases h2 : x = y <;> by_cases h3 : i.toInt < j.toInt <;>
      simp [h1, h2, h3, IntOp.ori, IntOp.andi, Scalar.select]
  rw [hstep]
  rcases lt_trichotomy y x with h | h | h
  · exact .inl ⟨by simp [h], .inl h⟩
  · subst h
    by_cases h3 : i.toInt < j.toInt
    · exact .inl ⟨by simp [h3], .inr ⟨rfl, h3.le⟩⟩
    · exact .inr ⟨by simp [h3], .inr ⟨rfl, not_lt.mp h3⟩⟩
  · exact .inr ⟨by simp [h.not_gt, h.ne], .inl h⟩

/-- The search as a function of the row. -/
theorem best_eq {F : FTy → Type} [FloatOps F] (s : FVec F S16384x8192 .f32) :
    best s = fun j => (Host.argReduce reducer_argmax_f32_i32 s (iotaInDim S16384x8192 32 1) (constant S_ .f32 0xFF800000#32)
      (constantI S_ 32 0#32) reducesTo_S16384x8192_S16384_d1 h_S_ j).2 := rfl

/-- The search of a row: the lowest index at which the row is greatest. -/
theorem best_spec (s : FVec Ideal S16384x8192 .f32) (r : Fin 16384) :
    ∃ j, IsBest (fun k : Fin 8192 => s (ix2 r k)) j ∧ best s (ix1 r) = BitVec.ofNat 32 j.val := by
  have h' : S16384x8192.Reduces [1] S16384 := by decide
  obtain ⟨j, hj, e⟩ := argRow_best (m := 16384) (n := 8192) (u := S_) (by norm_num) (by norm_num) s
    (reducer_argmax_f32_i32 (F := Ideal)) step_beats reducesTo_S16384x8192_S16384_d1 h' h_S_ r
  exact ⟨j, hj, (congrFun (best_eq s) (ix1 r)).trans e⟩

/-- The indices: for each column the lowest code at which the score is greatest. -/
theorem indices_spec (e : FVec Ideal S4x8x4096 .f32) (cb : FVec Ideal S8192x8 .f32) (b : Fin 4) (t : Fin 4096) :
    ∃ j, IsBest (fun k : Fin 8192 => score (fun d : Fin 8 => e (ix3 b d t)) fun d => cb (ix2 k d)) j
      ∧ indices e cb (ix2 b t) = BitVec.ofNat 32 j.val := by
  obtain ⟨j, hj, ej⟩ := best_spec (scores (normRows (rows e)) (normCodes cb)) (flat b t)
  refine ⟨j, ?_, ?_⟩
  · have hs : (fun k : Fin 8192 => scores (normRows (rows e)) (normCodes cb) (ix2 (flat b t) k))
        = fun k => score (fun d : Fin 8 => e (ix3 b d t)) fun d => cb (ix2 k d) := by
      funext k
      rw [scores_apply]
      simp only [normRows_apply, normCodes_apply, rows_apply, score, sqSum]
    rw [← hs]; exact hj
  · rw [← ej]
    unfold indices
    refine shapeCast_apply _ _ _ (ix1 (flat b t)) ?_
    rw [Shape.rowMajor_val_one, Shape.rowMajor_val_two]
    rfl

end Cert.Proof.Ref

end
-- ==== Proof.Equation.lean ====
/-
  The two programs compute the same arrays: under the precondition the kernel's projections, its choice of a code and its
  projection back are the reference's, element by element.
-/
module

public import proofs.«01_k».proof.Proof.KValue
public import proofs.«01_k».proof.Proof.RefEnc
public import proofs.«01_k».proof.Proof.RefTake
public import proofs.«01_k».proof.Proof.RefBest

@[expose] public section

noncomputable section

namespace Cert.Proof

open Idealize.ShloMosaic Idealize.ShloMosaic.ValueIdx
open Cert.KernelIdeal
open scoped BigOperators

section

variable (z : FVec Ideal S4x1024x4096 .f32) (v : FVec Ideal S8x1024 .f32) (g b : FVec Ideal S8 .f32)
  (v' : FVec Ideal S1024x8 .f32) (g' b' : FVec Ideal S1024 .f32) (cb : FVec Ideal S8192x8 .f32)

/-- The projection in. -/
theorem enc_eq (hv : ∀ i, IsReal (v i)) (n : Fin 4) (k : Fin 4096) (d : Fin 8) :
    K.encAt z (K.inArr v g) (K.shortColumn b) n k d = Ref.ze z v g b (ix3 n d k) := by
  unfold K.encAt
  rw [K.shortColumn_apply, Ref.ze_apply]
  exact congrArg (· + b (ix1 d)) (Finset.sum_congr rfl fun i _ => by rw [K.inArr_apply, weightR_eq _ fun k => hv _])

/-- It is real. -/
theorem ze_real (hz : ∀ i, IsReal (z i)) (hv : ∀ i, IsReal (v i)) (hg : ∀ i, IsReal (g i)) (hb : ∀ i, IsReal (b i))
    (hp : ∀ o : Fin 8, 0 < sqSum fun k : Fin 1024 => v (ix2 o k)) (n : Fin 4) (d : Fin 8) (k : Fin 4096) :
    IsReal (Ref.ze z v g b (ix3 n d k)) := by
  rw [Ref.ze_apply]
  exact (IsReal.sum fun i => (weight_real (hg _) (fun k => hv _) (hp d) i).mul (hz _)).add (hb _)

/-- The scores of a real row over the prepared codes are the negated squared distances. -/
theorem scoreAt_eq (hcb : ∀ i, IsReal (cb i)) (x : Fin 8 → EReal) (hx : ∀ d, IsReal (x d)) :
    K.scoreAt (K.codeArr cb) (K.squareArr cb) x = fun k => score x fun d => cb (ix2 k d) := by
  funext k
  have hc : ∀ d : Fin 8, IsReal (cb (ix2 k d)) := fun d => hcb _
  refine Eq.trans ?_ (score_eq hx hc)
  unfold K.scoreAt
  rw [K.squareArr_apply, unitR_eq hx, unitR_eq hc]
  refine congrArg (fun s => s - sqSum (unit x) - sqSum (unit fun d => cb (ix2 k d))) (Finset.sum_congr rfl fun d _ => ?_)
  rw [K.codeArr_apply, unitR_eq hc]

/-- The code chosen for a column. -/
def chosen (n : Fin 4) (k : Fin 4096) : Fin 8192 :=
  K.bestAt (K.codeArr cb) (K.squareArr cb) (K.encAt z (K.inArr v g) (K.shortColumn b) n k)

variable (hz : ∀ i, IsReal (z i)) (hv : ∀ i, IsReal (v i)) (hg : ∀ i, IsReal (g i)) (hb : ∀ i, IsReal (b i))
  (hv' : ∀ i, IsReal (v' i)) (hcb : ∀ i, IsReal (cb i)) (hp : ∀ o : Fin 8, 0 < sqSum fun k : Fin 1024 => v (ix2 o k))

include hz hv hg hb hcb hp

/-- The reference chooses it too: both take the lowest code among the best. -/
theorem indices_eq (n : Fin 4) (k : Fin 4096) :
    Ref.indices (Ref.ze z v g b) cb (ix2 n k) = BitVec.ofNat 32 (chosen z v g b cb n k).val := by
  obtain ⟨j, hj, e⟩ := Ref.indices_spec (Ref.ze z v g b) cb n k
  have hx : K.encAt z (K.inArr v g) (K.shortColumn b) n k = fun d => Ref.ze z v g b (ix3 n d k) :=
    funext fun d => enc_eq z v g b hv n k d
  have h := K.bestAt_best (K.codeArr cb) (K.squareArr cb) (K.encAt z (K.inArr v g) (K.shortColumn b) n k)
  rw [scoreAt_eq cb hcb _ fun d => by rw [hx]; exact ze_real z v g b hz hv hg hb hp n d k] at h
  rw [e, show chosen z v g b cb n k = j from IsBest.unique (by rw [hx] at h; rw [chosen, hx]; exact h) hj]

include hv'

/-- The projection back of the chosen codes. -/
theorem back_eq (n : Fin 4) (o : Fin 1024) (k : Fin 4096) :
    K.backAt cb (K.outArr v' g') (K.longColumn b') (chosen z v g b cb n k) o
      = Ref.out (Ref.zq (Ref.ze z v g b) cb (Ref.indices (Ref.ze z v g b) cb)) v' g' b' (ix3 n o k) := by
  unfold K.backAt
  rw [K.longColumn_apply, Ref.out_apply]
  refine congrArg (· + b' (ix1 o)) (Finset.sum_congr rfl fun d _ => ?_)
  rw [K.outArr_apply, weightR_eq _ fun k => hv' _,
    Ref.zq_apply (Ref.ze z v g b) cb _ (chosen z v g b cb) (indices_eq z v g b cb hz hv hg hb hcb hp) n d k
      (ze_real z v g b hz hv hg hb hp n d k)]

end

end Cert.Proof

end
-- ==== Proof.Algebraic.lean ====
/-
  The value claim: under the precondition both programs run and end with the same five results, their arguments untouched.
-/
module

public import proofs.«01_k».proof.Proof.Frames
public import proofs.«01_k».proof.Proof.KRun
public import proofs.«01_k».proof.Proof.Pre
public import proofs.«01_k».proof.Proof.Equation

@[expose] public section

noncomputable section

namespace Cert.Proof

open Idealize.ShloMosaic Idealize.ShloMosaic.TcCoe Idealize.ShloMosaic.ValueIdx Idealize.SL.Sem
open Cert.KernelIdeal Cert.KernelIdeal.Gen

/-- The kernel's run: its results are what the last stretch of host operations leaves, its arguments as launched. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ (c : Dev nD) (b : Ref sig .tc),
      Proc.devRef (τ := τ) .tc b ∈ Pipeline.ucRefs τ sig → r.2.mem ((c.tc : Thread nD τ).loc b) = W5 m g c (Proc.devRef .tc b) :=
  θ_run_mono (KRun.run_fold m g) fun r h c b hb => h.1 c _ hb

section

variable (m : (ℓ : Loc nD τ sig) → Buf (Elt Ideal) ℓ) (ρ : Dev nD → PrngReg) (c : Dev nD)

variable (hz : ∀ i, IsReal (K.arg m c main_arg0 i)) (hv : ∀ i, IsReal (K.arg m c main_arg1 i)) (hg : ∀ i, IsReal (K.arg m c main_arg2 i))
  (hb : ∀ i, IsReal (K.arg m c main_arg3 i)) (hv' : ∀ i, IsReal (K.arg m c main_arg4 i)) (hcb : ∀ i, IsReal (K.arg m c main_arg7 i))
  (hp : ∀ o : Fin 8, 0 < sqSum fun k : Fin 1024 => K.arg m c main_arg1 (ix2 o k))

include hv in
theorem same_enc : W5 m ρ c (Proc.devRef .tc main_v6_2)
    = Ref.ze (F := Ideal) (K.arg m c main_arg0) (K.arg m c main_arg1) (K.arg m c main_arg2) (K.arg m c main_arg3) :=
  funext fun (y : S4x8x4096.Idx) => by
    obtain ⟨n, d, k, rfl⟩ : ∃ n d k, y = ix3 n d k := ⟨y 0, y 1, y 2, eq_ix3 y⟩
    exact (K.result_enc m ρ c n d k).trans (enc_eq _ _ _ _ hv n k d)

include hz hv hg hb hcb hp in
theorem same_index : W5 m ρ c (Proc.devRef .tc main_v7)
    = Ref.indices (F := Ideal) (Ref.ze (F := Ideal) (K.arg m c main_arg0) (K.arg m c main_arg1) (K.arg m c main_arg2) (K.arg m c main_arg3))
        (K.arg m c main_arg7) :=
  funext fun (y : S4x4096.Idx) => by
    obtain ⟨n, k, rfl⟩ : ∃ n k, y = ix2 n k := ⟨y 0, y 1, eq_ix2 y⟩
    exact (K.result_index m ρ c n k).trans (indices_eq _ _ _ _ _ hz hv hg hb hcb hp n k).symm

include hz hv hg hb hv' hcb hp in
theorem same_back : W5 m ρ c (Proc.devRef .tc main_v6_0)
    = Ref.out (F := Ideal) (Ref.zq (F := Ideal)
        (Ref.ze (F := Ideal) (K.arg m c main_arg0) (K.arg m c main_arg1) (K.arg m c main_arg2) (K.arg m c main_arg3)) (K.arg m c main_arg7)
        (Ref.indices (F := Ideal)
          (Ref.ze (F := Ideal) (K.arg m c main_arg0) (K.arg m c main_arg1) (K.arg m c main_arg2) (K.arg m c main_arg3)) (K.arg m c main_arg7)))
      (K.arg m c main_arg4) (K.arg m c main_arg5) (K.arg m c main_arg6) :=
  funext fun (y : S4x1024x4096.Idx) => by
    obtain ⟨n, o, k, rfl⟩ : ∃ n o k, y = ix3 n o k := ⟨y 0, y 1, y 2, eq_ix3 y⟩
    exact (K.result_back m ρ c n o k).trans (back_eq _ _ _ _ _ _ _ _ hz hv hg hb hv' hcb hp n o k)

theorem same_loss : W5 m ρ c (Proc.devRef .tc main_v8) = Ref.zeros (F := Ideal) := (K.result_loss m ρ c).trans (by
  unfold K.noLoss Ref.zeros
  with_reducible rfl)

end

theorem algebraic [Cert.Pre_tame.Facts] : Cert.algebraic_KernelIdeal_ReferenceIdeal_pre_tame := by
  intro m g m' g' hpre hargs
  refine ⟨fun c => W5 m g c (Proc.devRef .tc main_v6_0), fun c => W5 m g c (Proc.devRef .tc main_v8),
    fun c => W5 m g c (Proc.devRef .tc main_v8), fun c => W5 m g c (Proc.devRef .tc main_v7),
    fun c => W5 m g c (Proc.devRef .tc main_v6_2), ?_, ?_⟩
  · exact θ_run_mono (kernel_run m g) fun r h c =>
      ⟨h c _ (mem_uc _ (by decide)), h c _ (mem_uc _ (by decide)), h c _ (mem_uc _ (by decide)), h c _ (mem_uc _ (by decide)),
        h c _ (mem_uc _ (by decide)),
        (h c _ (mem_uc _ (by decide))).trans (W5_main_arg0 m g c), (h c _ (mem_uc _ (by decide))).trans (W5_main_arg1 m g c),
        (h c _ (mem_uc _ (by decide))).trans (W5_main_arg2 m g c), (h c _ (mem_uc _ (by decide))).trans (W5_main_arg3 m g c),
        (h c _ (mem_uc _ (by decide))).trans (W5_main_arg4 m g c), (h c _ (mem_uc _ (by decide))).trans (W5_main_arg5 m g c),
        (h c _ (mem_uc _ (by decide))).trans (W5_main_arg6 m g c), (h c _ (mem_uc _ (by decide))).trans (W5_main_arg7 m g c)⟩
  · refine θ_run_mono (Ref.run m' g') fun r h c => ?_
    obtain ⟨a0, a1, a2, a3, a4, a5, a6, a7⟩ := hargs c
    obtain ⟨hz, hv, hg, hb, hv', hcb, hp⟩ := Pre.of_fn _ _ _ _ _ _ _ _ (hpre c)
    obtain ⟨h0, h1, h2, h3, h4, h5, h6, h7, r0, r1, r2, r3, r4⟩ := h c
    rw [a0, a1, a2, a3, a4, a5, a6, a7] at r0
    rw [a0, a1, a2, a3, a7] at r3
    rw [a0, a1, a2, a3] at r4
    exact ⟨r0.trans (same_back m g c hz hv hg hb hv' hcb hp).symm, r1.trans (same_loss m g c).symm, r2.trans (same_loss m g c).symm,
      r3.trans (same_index m g c hz hv hg hb hcb hp).symm, r4.trans (same_enc m g c hv).symm, h0, h1, h2, h3, h4, h5, h6, h7⟩

end Cert.Proof

end
-- ==== Proof.lean ====
module

public import proofs.«01_k».proof.Defs
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_tame.Gen.facts,
  kernel_frame, ideal_frame, fun m g _ => ideal_frame m g trivial, reference_frame, fun m g _ => reference_frame m g trivial,
  trivial, algebraic⟩

end Cert.Proof

end
